-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x256 : Shape := ⟨2, ![10000, 256]⟩
abbrev S2x160000 : Shape := ⟨2, ![2, 160000]⟩
abbrev S10000 : Shape := ⟨1, ![10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S10000x1 : Shape := ⟨2, ![10000, 1]⟩
abbrev S2x10000x128 : Shape := ⟨3, ![2, 10000, 128]⟩
abbrev S10000x128 : Shape := ⟨2, ![10000, 128]⟩
abbrev S1x10000x128 : Shape := ⟨3, ![1, 10000, 128]⟩
abbrev S160000x2 : Shape := ⟨2, ![160000, 2]⟩
abbrev S160000x128 : Shape := ⟨2, ![160000, 128]⟩
abbrev S1x256x256 : Shape := ⟨3, ![1, 256, 256]⟩
abbrev S1x256 : Shape := ⟨2, ![1, 256]⟩
abbrev S1x256x64 : Shape := ⟨3, ![1, 256, 64]⟩
abbrev S2x10000x32 : Shape := ⟨3, ![2, 10000, 32]⟩
abbrev S2x2000x128 : Shape := ⟨3, ![2, 2000, 128]⟩
abbrev S2000x1 : Shape := ⟨2, ![2000, 1]⟩
abbrev S2x2000x32 : Shape := ⟨3, ![2, 2000, 32]⟩
abbrev S1x2000x128 : Shape := ⟨3, ![1, 2000, 128]⟩
abbrev S2000x128 : Shape := ⟨2, ![2000, 128]⟩
abbrev S1x128x256 : Shape := ⟨3, ![1, 128, 256]⟩
abbrev S128x256 : Shape := ⟨2, ![128, 256]⟩
abbrev S2000x256 : Shape := ⟨2, ![2000, 256]⟩
abbrev S2000x64 : Shape := ⟨2, ![2000, 64]⟩
abbrev S2000x32 : Shape := ⟨2, ![2000, 32]⟩
abbrev S1x2000x32 : Shape := ⟨3, ![1, 2000, 32]⟩
abbrev S10000x32 : Shape := ⟨2, ![10000, 32]⟩
abbrev S160000x32 : Shape := ⟨2, ![160000, 32]⟩
abbrev S1x10000x32 : Shape := ⟨3, ![1, 10000, 32]⟩
abbrev S1x64 : Shape := ⟨2, ![1, 64]⟩
abbrev S10000x64 : Shape := ⟨2, ![10000, 64]⟩

abbrev nBuf : Space → Nat
  | .hbm => 139
  | .vmem => 17
  | .smem => 0
  | _ => 0

abbrev hbmTy0_0 (i : Nat) : BufTy := match i % 128 with
  | 0 => ⟨S10000x256, .f32⟩
  | 1 => ⟨S2x160000, .i32⟩
  | 2 => ⟨S10000, .i32⟩
  | 3 => ⟨S256x256, .f32⟩
  | 4 => ⟨S256, .f32⟩
  | 5 => ⟨S256x64, .f32⟩
  | 6 => ⟨S64, .f32⟩
  | 7 => ⟨S1x160000, .i32⟩
  | 8 => ⟨S160000, .i32⟩
  | 9 => ⟨S1x160000, .i32⟩
  | 10 => ⟨S160000, .i32⟩
  | 11 => ⟨S_, .f32⟩
  | 12 => ⟨S10000, .f32⟩
  | 13 => ⟨S_, .i32⟩
  | 14 => ⟨S160000, .i32⟩
  | 15 => ⟨S160000, .i1⟩
  | 16 => ⟨S_, .i32⟩
  | 17 => ⟨S160000, .i32⟩
  | 18 => ⟨S160000, .i32⟩
  | 19 => ⟨S160000, .i32⟩
  | 20 => ⟨S160000x1, .i32⟩
  | 21 => ⟨S_, .f32⟩
  | 22 => ⟨S160000, .f32⟩
  | 23 => ⟨S10000, .f32⟩
  | 24 => ⟨S10000x1, .f32⟩
  | 25 => ⟨S10000x1, .f32⟩
  | 26 => ⟨S2x10000x128, .f32⟩
  | 27 => ⟨S_, .f32⟩
  | 28 => ⟨S10000x128, .f32⟩
  | 29 => ⟨S_, .i32⟩
  | 30 => ⟨S160000, .i32⟩
  | 31 => ⟨S160000, .i1⟩
  | 32 => ⟨S_, .i32⟩
  | 33 => ⟨S160000, .i32⟩
  | 34 => ⟨S160000, .i32⟩
  | 35 => ⟨S160000, .i32⟩
  | 36 => ⟨S_, .i32⟩
  | 37 => ⟨S160000, .i32⟩
  | 38 => ⟨S160000, .i32⟩
  | 39 => ⟨S160000x1, .i32⟩
  | 40 => ⟨S160000x1, .i32⟩
  | 41 => ⟨S160000x2, .i32⟩
  | 42 => ⟨S160000x128, .f32⟩
  | 43 => ⟨S_, .i32⟩
  | 44 => ⟨S160000, .i32⟩
  | 45 => ⟨S160000, .i1⟩
  | 46 => ⟨S_, .i32⟩
  | 47 => ⟨S160000, .i32⟩
  | 48 => ⟨S160000, .i32⟩
  | 49 => ⟨S160000, .i32⟩
  | 50 => ⟨S160000x1, .i32⟩
  | 51 => ⟨S10000x128, .f32⟩
  | 52 => ⟨S_, .f32⟩
  | 53 => ⟨S10000x128, .f32⟩
  | 54 => ⟨S_, .i32⟩
  | 55 => ⟨S160000, .i32⟩
  | 56 => ⟨S160000, .i1⟩
  | 57 => ⟨S_, .i32⟩
  | 58 => ⟨S160000, .i32⟩
  | 59 => ⟨S160000, .i32⟩
  | 60 => ⟨S160000, .i32⟩
  | 61 => ⟨S_, .i32⟩
  | 62 => ⟨S160000, .i32⟩
  | 63 => ⟨S160000, .i32⟩
  | 64 => ⟨S160000x1, .i32⟩
  | 65 => ⟨S160000x1, .i32⟩
  | 66 => ⟨S160000x2, .i32⟩
  | 67 => ⟨S160000x128, .f32⟩
  | 68 => ⟨S_, .i32⟩
  | 69 => ⟨S160000, .i32⟩
  | 70 => ⟨S160000, .i1⟩
  | 71 => ⟨S_, .i32⟩
  | 72 => ⟨S160000, .i32⟩
  | 73 => ⟨S160000, .i32⟩
  | 74 => ⟨S160000, .i32⟩
  | 75 => ⟨S160000x1, .i32⟩
  | 76 => ⟨S10000x128, .f32⟩
  | 77 => ⟨S1x10000x128, .f32⟩
  | 78 => ⟨S1x10000x128, .f32⟩
  | 79 => ⟨S2x10000x128, .f32⟩
  | 80 => ⟨S1x256x256, .f32⟩
  | 81 => ⟨S1x256, .f32⟩
  | 82 => ⟨S1x256x64, .f32⟩
  | 83 => ⟨S2x10000x32, .f32⟩
  | 84 => ⟨S_, .f32⟩
  | 85 => ⟨S10000x32, .f32⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S_, .i32⟩
  | 94 => ⟨S160000, .i32⟩
  | 95 => ⟨S160000, .i32⟩
  | 96 => ⟨S160000x1, .i32⟩
  | 97 => ⟨S160000x1, .i32⟩
  | 98 => ⟨S160000x2, .i32⟩
  | 99 => ⟨S160000x32, .f32⟩
  | 100 => ⟨S_, .i32⟩
  | 101 => ⟨S160000, .i32⟩
  | 102 => ⟨S160000, .i1⟩
  | 103 => ⟨S_, .i32⟩
  | 104 => ⟨S160000, .i32⟩
  | 105 => ⟨S160000, .i32⟩
  | 106 => ⟨S160000, .i32⟩
  | 107 => ⟨S160000x1, .i32⟩
  | 108 => ⟨S10000x32, .f32⟩
  | 109 => ⟨S_, .f32⟩
  | 110 => ⟨S10000x32, .f32⟩
  | 111 => ⟨S_, .i32⟩
  | 112 => ⟨S160000, .i32⟩
  | 113 => ⟨S160000, .i1⟩
  | 114 => ⟨S_, .i32⟩
  | 115 => ⟨S160000, .i32⟩
  | 116 => ⟨S160000, .i32⟩
  | 117 => ⟨S160000, .i32⟩
  | 118 => ⟨S_, .i32⟩
  | 119 => ⟨S160000, .i32⟩
  | 120 => ⟨S160000, .i32⟩
  | 121 => ⟨S160000x1, .i32⟩
  | 122 => ⟨S160000x1, .i32⟩
  | 123 => ⟨S160000x2, .i32⟩
  | 124 => ⟨S160000x32, .f32⟩
  | 125 => ⟨S_, .i32⟩
  | 126 => ⟨S160000, .i32⟩
  | 127 => ⟨S160000, .i1⟩
  | _ => ⟨S10000x256, .f32⟩

abbrev hbmTy0_1 (i : Nat) : BufTy := match i % 128 with
  | 0 => ⟨S_, .i32⟩
  | 1 => ⟨S160000, .i32⟩
  | 2 => ⟨S160000, .i32⟩
  | 3 => ⟨S160000, .i32⟩
  | 4 => ⟨S160000x1, .i32⟩
  | 5 => ⟨S10000x32, .f32⟩
  | 6 => ⟨S1x10000x32, .f32⟩
  | 7 => ⟨S1x10000x32, .f32⟩
  | 8 => ⟨S2x10000x32, .f32⟩
  | 9 => ⟨S1x64, .f32⟩
  | 10 => ⟨S10000x64, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S10000x1, .f32⟩
  | .local _ .vmem, ⟨1, _⟩ => ⟨S10000x256, .f32⟩
  | .local _ .vmem, ⟨2, _⟩ => ⟨S10000x1, .f32⟩
  | .local _ .vmem, ⟨3, _⟩ => ⟨S2x10000x128, .f32⟩
  | .local _ .vmem, ⟨4, _⟩ => ⟨S2x2000x128, .f32⟩
  | .local _ .vmem, ⟨5, _⟩ => ⟨S2x2000x128, .f32⟩
  | .local _ .vmem, ⟨6, _⟩ => ⟨S2000x1, .f32⟩
  | .local _ .vmem, ⟨7, _⟩ => ⟨S2000x1, .f32⟩
  | .local _ .vmem, ⟨8, _⟩ => ⟨S1x256x256, .f32⟩
  | .local _ .vmem, ⟨9, _⟩ => ⟨S1x256, .f32⟩
  | .local _ .vmem, ⟨10, _⟩ => ⟨S1x256x64, .f32⟩
  | .local _ .vmem, ⟨11, _⟩ => ⟨S2x2000x32, .f32⟩
  | .local _ .vmem, ⟨12, _⟩ => ⟨S2x2000x32, .f32⟩
  | .local _ .vmem, ⟨13, _⟩ => ⟨S2x10000x32, .f32⟩
  | .local _ .vmem, ⟨14, _⟩ => ⟨S10000x1, .f32⟩
  | .local _ .vmem, ⟨15, _⟩ => ⟨S1x64, .f32⟩
  | .local _ .vmem, ⟨16, _⟩ => ⟨S10000x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_cst_2 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_c_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_12 : Ref sig .tc := ⟨.hbm, 68, rfl⟩
abbrev main_v46 : Ref sig .tc := ⟨.hbm, 69, rfl⟩
abbrev main_v47 : Ref sig .tc := ⟨.hbm, 70, rfl⟩
abbrev main_c_13 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_c_15 : Ref sig .tc := ⟨.hbm, 86, rfl⟩
abbrev main_v61 : Ref sig .tc := ⟨.hbm, 87, rfl⟩
abbrev main_v62 : Ref sig .tc := ⟨.hbm, 88, rfl⟩
abbrev main_c_16 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_17 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_18 : Ref sig .tc := ⟨.hbm, 100, rfl⟩
abbrev main_v72 : Ref sig .tc := ⟨.hbm, 101, rfl⟩
abbrev main_v73 : Ref sig .tc := ⟨.hbm, 102, rfl⟩
abbrev main_c_19 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_20 : Ref sig .tc := ⟨.hbm, 109, rfl⟩
abbrev main_v79 : Ref sig .tc := ⟨.hbm, 110, rfl⟩
abbrev main_c_21 : Ref sig .tc := ⟨.hbm, 111, rfl⟩
abbrev main_v80 : Ref sig .tc := ⟨.hbm, 112, rfl⟩
abbrev main_v81 : Ref sig .tc := ⟨.hbm, 113, rfl⟩
abbrev main_c_22 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_23 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_24 : Ref sig .tc := ⟨.hbm, 125, rfl⟩
abbrev main_v91 : Ref sig .tc := ⟨.hbm, 126, rfl⟩
abbrev main_v92 : Ref sig .tc := ⟨.hbm, 127, rfl⟩
abbrev main_c_25 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem1_0 : DmaSem sig := 14
abbrev cc2_sem2_0 : DmaSem sig := 15
abbrev cc2_sem3_0 : DmaSem sig := 16

abbrev nD : Nat := 1
abbrev τ : Topo := Topo.v7x

variable {F : FTy → Type} [FloatOps F]

abbrev grid0 : Pipeline.Grid := .none

abbrev stage0_0 : Fin 1 → Memref sig .tc .vmem S10000x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![5], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2x2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x2000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := .none

abbrev stage2_0 : Fin 1 → Memref sig .tc .vmem S2x10000x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S10000x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S10000x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
-- ==== ReferenceIdeal.lean ====
abbrev S10000x256 : Shape := ⟨2, ![10000, 256]⟩
abbrev S2x160000 : Shape := ⟨2, ![2, 160000]⟩
abbrev S10000 : Shape := ⟨1, ![10000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x256 : Shape := ⟨2, ![160000, 256]⟩
abbrev S1x256 : Shape := ⟨2, ![1, 256]⟩
abbrev S10000x64 : Shape := ⟨2, ![10000, 64]⟩
abbrev S1x64 : Shape := ⟨2, ![1, 64]⟩

abbrev nBuf : Space → Nat
  | .hbm => 144
  | .vmem => 0
  | .smem => 0
  | _ => 0

abbrev hbmTy0_0 (i : Nat) : BufTy := match i % 128 with
  | 0 => ⟨S10000x256, .f32⟩
  | 1 => ⟨S2x160000, .i32⟩
  | 2 => ⟨S10000, .i32⟩
  | 3 => ⟨S256x256, .f32⟩
  | 4 => ⟨S256, .f32⟩
  | 5 => ⟨S256x64, .f32⟩
  | 6 => ⟨S64, .f32⟩
  | 7 => ⟨S1x160000, .i32⟩
  | 8 => ⟨S160000, .i32⟩
  | 9 => ⟨S1x160000, .i32⟩
  | 10 => ⟨S160000, .i32⟩
  | 11 => ⟨S_, .f32⟩
  | 12 => ⟨S10000, .f32⟩
  | 13 => ⟨S_, .i32⟩
  | 14 => ⟨S160000, .i32⟩
  | 15 => ⟨S160000, .i1⟩
  | 16 => ⟨S_, .i32⟩
  | 17 => ⟨S160000, .i32⟩
  | 18 => ⟨S160000, .i32⟩
  | 19 => ⟨S160000, .i32⟩
  | 20 => ⟨S160000x1, .i32⟩
  | 21 => ⟨S_, .f32⟩
  | 22 => ⟨S160000, .f32⟩
  | 23 => ⟨S10000, .f32⟩
  | 24 => ⟨S_, .f32⟩
  | 25 => ⟨S_, .f32⟩
  | 26 => ⟨S10000, .f32⟩
  | 27 => ⟨S10000, .f32⟩
  | 28 => ⟨S_, .i32⟩
  | 29 => ⟨S160000, .i32⟩
  | 30 => ⟨S160000, .i1⟩
  | 31 => ⟨S_, .i32⟩
  | 32 => ⟨S160000, .i32⟩
  | 33 => ⟨S160000, .i32⟩
  | 34 => ⟨S160000, .i32⟩
  | 35 => ⟨S160000x1, .i32⟩
  | 36 => ⟨S160000, .f32⟩
  | 37 => ⟨S160000, .f32⟩
  | 38 => ⟨S_, .i32⟩
  | 39 => ⟨S160000, .i32⟩
  | 40 => ⟨S160000, .i1⟩
  | 41 => ⟨S_, .i32⟩
  | 42 => ⟨S160000, .i32⟩
  | 43 => ⟨S160000, .i32⟩
  | 44 => ⟨S160000, .i32⟩
  | 45 => ⟨S160000x1, .i32⟩
  | 46 => ⟨S160000, .f32⟩
  | 47 => ⟨S160000, .f32⟩
  | 48 => ⟨S160000, .f32⟩
  | 49 => ⟨S_, .i32⟩
  | 50 => ⟨S160000, .i32⟩
  | 51 => ⟨S160000, .i1⟩
  | 52 => ⟨S_, .i32⟩
  | 53 => ⟨S160000, .i32⟩
  | 54 => ⟨S160000, .i32⟩
  | 55 => ⟨S160000, .i32⟩
  | 56 => ⟨S160000x1, .i32⟩
  | 57 => ⟨S160000x256, .f32⟩
  | 58 => ⟨S160000x1, .f32⟩
  | 59 => ⟨S160000x256, .f32⟩
  | 60 => ⟨S160000x256, .f32⟩
  | 61 => ⟨S_, .f32⟩
  | 62 => ⟨S10000x256, .f32⟩
  | 63 => ⟨S_, .i32⟩
  | 64 => ⟨S160000, .i32⟩
  | 65 => ⟨S160000, .i1⟩
  | 66 => ⟨S_, .i32⟩
  | 67 => ⟨S160000, .i32⟩
  | 68 => ⟨S160000, .i32⟩
  | 69 => ⟨S160000, .i32⟩
  | 70 => ⟨S160000x1, .i32⟩
  | 71 => ⟨S10000x256, .f32⟩
  | 72 => ⟨S10000x256, .f32⟩
  | 73 => ⟨S1x256, .f32⟩
  | 74 => ⟨S10000x256, .f32⟩
  | 75 => ⟨S10000x256, .f32⟩
  | 76 => ⟨S_, .f32⟩
  | 77 => ⟨S10000x256, .f32⟩
  | 78 => ⟨S10000x256, .f32⟩
  | 79 => ⟨S_, .f32⟩
  | 80 => ⟨S10000, .f32⟩
  | 81 => ⟨S_, .i32⟩
  | 82 => ⟨S160000, .i32⟩
  | 83 => ⟨S160000, .i1⟩
  | 84 => ⟨S_, .i32⟩
  | 85 => ⟨S160000, .i32⟩
  | 86 => ⟨S160000, .i32⟩
  | 87 => ⟨S160000, .i32⟩
  | 88 => ⟨S160000x1, .i32⟩
  | 89 => ⟨S_, .f32⟩
  | 90 => ⟨S160000, .f32⟩
  | 91 => ⟨S10000, .f32⟩
  | 92 => ⟨S_, .f32⟩
  | 93 => ⟨S_, .f32⟩
  | 94 => ⟨S10000, .f32⟩
  | 95 => ⟨S10000, .f32⟩
  | 96 => ⟨S_, .i32⟩
  | 97 => ⟨S160000, .i32⟩
  | 98 => ⟨S160000, .i1⟩
  | 99 => ⟨S_, .i32⟩
  | 100 => ⟨S160000, .i32⟩
  | 101 => ⟨S160000, .i32⟩
  | 102 => ⟨S160000, .i32⟩
  | 103 => ⟨S160000x1, .i32⟩
  | 104 => ⟨S160000, .f32⟩
  | 105 => ⟨S160000, .f32⟩
  | 106 => ⟨S_, .i32⟩
  | 107 => ⟨S160000, .i32⟩
  | 108 => ⟨S160000, .i1⟩
  | 109 => ⟨S_, .i32⟩
  | 110 => ⟨S160000, .i32⟩
  | 111 => ⟨S160000, .i32⟩
  | 112 => ⟨S160000, .i32⟩
  | 113 => ⟨S160000x1, .i32⟩
  | 114 => ⟨S160000, .f32⟩
  | 115 => ⟨S160000, .f32⟩
  | 116 => ⟨S160000, .f32⟩
  | 117 => ⟨S_, .i32⟩
  | 118 => ⟨S160000, .i32⟩
  | 119 => ⟨S160000, .i1⟩
  | 120 => ⟨S_, .i32⟩
  | 121 => ⟨S160000, .i32⟩
  | 122 => ⟨S160000, .i32⟩
  | 123 => ⟨S160000, .i32⟩
  | 124 => ⟨S160000x1, .i32⟩
  | 125 => ⟨S160000x256, .f32⟩
  | 126 => ⟨S160000x1, .f32⟩
  | 127 => ⟨S160000x256, .f32⟩
  | _ => ⟨S10000x256, .f32⟩

abbrev hbmTy0_1 (i : Nat) : BufTy := match i % 128 with
  | 0 => ⟨S160000x256, .f32⟩
  | 1 => ⟨S_, .f32⟩
  | 2 => ⟨S10000x256, .f32⟩
  | 3 => ⟨S_, .i32⟩
  | 4 => ⟨S160000, .i32⟩
  | 5 => ⟨S160000, .i1⟩
  | 6 => ⟨S_, .i32⟩
  | 7 => ⟨S160000, .i32⟩
  | 8 => ⟨S160000, .i32⟩
  | 9 => ⟨S160000, .i32⟩
  | 10 => ⟨S160000x1, .i32⟩
  | 11 => ⟨S10000x256, .f32⟩
  | 12 => ⟨S10000x64, .f32⟩
  | 13 => ⟨S1x64, .f32⟩
  | 14 => ⟨S10000x64, .f32⟩
  | 15 => ⟨S10000x64, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_c_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_c_13 : Ref sig .tc := ⟨.hbm, 81, rfl⟩
abbrev main_v55 : Ref sig .tc := ⟨.hbm, 82, rfl⟩
abbrev main_v56 : Ref sig .tc := ⟨.hbm, 83, rfl⟩
abbrev main_c_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_15 : Ref sig .tc := ⟨.hbm, 89, rfl⟩
abbrev main_v61 : Ref sig .tc := ⟨.hbm, 90, rfl⟩
abbrev main_v62 : Ref sig .tc := ⟨.hbm, 91, rfl⟩
abbrev main_cst_16 : Ref sig .tc := ⟨.hbm, 92, rfl⟩
abbrev main_call2_v0 : Ref sig .tc := ⟨.hbm, 93, rfl⟩
abbrev main_call2_v1 : Ref sig .tc := ⟨.hbm, 94, rfl⟩
abbrev main_v63 : Ref sig .tc := ⟨.hbm, 95, rfl⟩
abbrev main_c_17 : Ref sig .tc := ⟨.hbm, 96, rfl⟩
abbrev main_v64 : Ref sig .tc := ⟨.hbm, 97, rfl⟩
abbrev main_v65 : Ref sig .tc := ⟨.hbm, 98, rfl⟩
abbrev main_c_18 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_19 : Ref sig .tc := ⟨.hbm, 106, rfl⟩
abbrev main_v72 : Ref sig .tc := ⟨.hbm, 107, rfl⟩
abbrev main_v73 : Ref sig .tc := ⟨.hbm, 108, rfl⟩
abbrev main_c_20 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_21 : Ref sig .tc := ⟨.hbm, 117, rfl⟩
abbrev main_v81 : Ref sig .tc := ⟨.hbm, 118, rfl⟩
abbrev main_v82 : Ref sig .tc := ⟨.hbm, 119, rfl⟩
abbrev main_c_22 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_23 : Ref sig .tc := ⟨.hbm, 129, rfl⟩
abbrev main_v91 : Ref sig .tc := ⟨.hbm, 130, rfl⟩
abbrev main_c_24 : Ref sig .tc := ⟨.hbm, 131, rfl⟩
abbrev main_v92 : Ref sig .tc := ⟨.hbm, 132, rfl⟩
abbrev main_v93 : Ref sig .tc := ⟨.hbm, 133, rfl⟩
abbrev main_c_25 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩

abbrev nD : Nat := 1
abbrev τ : Topo := Topo.v7x

variable {F : FTy → Type} [FloatOps F]
-- ==== Proof.Index.lean ====
/-
  Gathers and accumulating scatters of rows, read at one element, at any extents: the element that a gather reads
  (its start index is clamped into the operand) and, at the ideal instance, the sum of the updates that an
  accumulating scatter brings to an element (an update whose index is outside the operand is dropped).
-/
module

public import Idealize.ShloMosaic.Lib.Pointwise
public import Idealize.ShloMosaic.Lib.Routing.OpsPair

@[expose] public section

noncomputable section

namespace Cert.Proof

open Idealize.ShloMosaic

/-- The index word `v`, read signed and clamped into `[0, N − 1]`. -/
def clampTo (N : Nat) (hN : 0 < N) {w : Nat} (v : BitVec w) : Fin N := ⟨min v.toInt.toNat (N - 1), by omega⟩

/-- An index word whose signed value is the row `i` clamps to `i`. -/
theorem clampTo_of_toInt {N : Nat} (hN : 0 < N) {w : Nat} (v : BitVec w) (i : Fin N) (h : v.toInt = (i.val : Int)) :
    clampTo N hN v = i := by
  apply Fin.ext
  show min v.toInt.toNat (N - 1) = i.val
  have := i.isLt
  rw [h]
  omega

section Gather
variable {α : Type}

/-- The dimension numbers of `x[idx]` for a vector `x` of `N` elements and `E` indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of `x[idx]` for a table `x` of `N` rows of `C` elements and `E` row indices. -/
abbrev rowGather (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of `x[h, idx]` for a stack `x` of `H` tables of `N` rows of `C` elements and `E` pairs of a
    table's number and a row index. -/
abbrev pairGather (H N C E : Nat)
    (wf : GatherDims.WF ⟨3, ![H, N, C]⟩ ⟨2, ![E, 2]⟩ ⟨2, ![E, C]⟩ [1] [0, 1] [] [0, 1] [] 1 ![1, 1, C]) :
    GatherDims ⟨3, ![H, N, C]⟩ ⟨2, ![E, 2]⟩ ⟨2, ![E, C]⟩ where
  offsetDims := [1]
  collapsedSliceDims := [0, 1]
  operandBatchingDims := []
  startIndicesBatchingDims := []
  startIndexMap := [0, 1]
  indexVectorDim := 1
  sliceSizes := ![1, 1, C]
  wf := wf

/-- Element `e` of a gather from a vector is the vector's element at index `e`, clamped. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampTo N hN (idx (ix2 e 0)))) := by
  unfold Host.gather
  refine congrArg x (funext fun a => Fin.ext ?_)
  obtain rfl : a = 0 := Subsingleton.elim _ _
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  have hm : (0 : Fin 1) ∈ (vecGather N E wf).startIndexMap := List.mem_singleton.mpr rfl
  unfold GatherDims.start
  rw [dif_pos hm]
  have hsi : (vecGather N E wf).siIdx (ix1 e) ⟨List.idxOf (0 : Fin 1) (vecGather N E wf).startIndexMap,
      List.idxOf_lt_length_iff.2 hm⟩ = ix2 e 0 := by
    funext b; refine Fin.ext ?_
    match b with
    | ⟨0, _⟩ => rfl
    | ⟨1, _⟩ => rfl
  rw [hsi]
  rfl

/-- Element `(e, c)` of a gather of rows is element `c` of the row at index `e`, clamped. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N C E wf) x idx (ix2 e c) = x (ix2 (clampTo N hN (idx (ix2 e 0))) c) := by
  unfold Host.gather
  refine congrArg x (funext fun a => Fin.ext ?_)
  show (rowGather N C E wf).start (ix2 e c) idx a + (rowGather N C E wf).batchCoord (ix2 e c) a
    + (rowGather N C E wf).offCoord (ix2 e c) a = _
  rw [GatherDims.batchCoord_eq_zero _ _ _ List.not_mem_nil]
  match a with
  | ⟨0, _⟩ =>
    have hm : (0 : Fin 2) ∈ (rowGather N C E wf).startIndexMap := List.mem_singleton.mpr rfl
    show (rowGather N C E wf).start (ix2 e c) idx 0 + 0 + (rowGather N C E wf).offCoord (ix2 e c) 0 = _
    rw [GatherDims.offCoord_eq_zero _ _ _ (fun h => ((GatherDims.mem_sKept _ _).mp h).1 (List.mem_singleton.mpr rfl))]
    unfold GatherDims.start
    rw [dif_pos hm]
    have hsi : (rowGather N C E wf).siIdx (ix2 e c) ⟨List.idxOf (0 : Fin 2) (rowGather N C E wf).startIndexMap,
        List.idxOf_lt_length_iff.2 hm⟩ = ix2 e 0 := by
      funext b; refine Fin.ext ?_
      match b with
      | ⟨0, _⟩ => rfl
      | ⟨1, _⟩ => rfl
    rw [hsi]
    rfl
  | ⟨1, _⟩ =>
    have hm : (1 : Fin 2) ∉ (rowGather N C E wf).startIndexMap := by
      show (1 : Fin 2) ∉ ([0] : List (Fin 2)); decide
    show (rowGather N C E wf).start (ix2 e c) idx 1 + 0 + (rowGather N C E wf).offCoord (ix2 e c) 1 = c.val
    unfold GatherDims.start
    rw [dif_neg hm, Nat.zero_add]
    rfl

/-- Element `(e, c)` of a gather of rows from a stack of tables is element `c` of the row that pair `e` names, both
    words clamped. -/
theorem pairGather_apply {H N C E w : Nat} (hH : 0 < H) (hN : 0 < N)
    (wf : GatherDims.WF ⟨3, ![H, N, C]⟩ ⟨2, ![E, 2]⟩ ⟨2, ![E, C]⟩ [1] [0, 1] [] [0, 1] [] 1 ![1, 1, C])
    (x : (⟨3, ![H, N, C]⟩ : Shape).Idx → α) (idx : IVec ⟨2, ![E, 2]⟩ w) (e : Fin E) (c : Fin C) :
    Host.gather (pairGather H N C E wf) x idx (ix2 e c)
      = x (ix3 (clampTo H hH (idx (ix2 e 0))) (clampTo N hN (idx (ix2 e 1))) c) := by
  unfold Host.gather
  refine congrArg x (funext fun a => Fin.ext ?_)
  show (pairGather H N C E wf).start (ix2 e c) idx a + (pairGather H N C E wf).batchCoord (ix2 e c) a
    + (pairGather H N C E wf).offCoord (ix2 e c) a = _
  rw [GatherDims.batchCoord_eq_zero _ _ _ List.not_mem_nil]
  match a with
  | ⟨0, _⟩ =>
    have hm : (0 : Fin 3) ∈ (pairGather H N C E wf).startIndexMap := List.mem_cons_self
    show (pairGather H N C E wf).start (ix2 e c) idx 0 + 0 + (pairGather H N C E wf).offCoord (ix2 e c) 0 = _
    rw [GatherDims.offCoord_eq_zero _ _ _ (fun h => ((GatherDims.mem_sKept _ _).mp h).1 List.mem_cons_self)]
    unfold GatherDims.start
    rw [dif_pos hm]
    have hsi : (pairGather H N C E wf).siIdx (ix2 e c) ⟨List.idxOf (0 : Fin 3) (pairGather H N C E wf).startIndexMap,
        List.idxOf_lt_length_iff.2 hm⟩ = ix2 e 0 := by
      funext b; refine Fin.ext ?_
      match b with
      | ⟨0, _⟩ => rfl
      | ⟨1, _⟩ => rfl
    rw [hsi]
    rfl
  | ⟨1, _⟩ =>
    have hm : (1 : Fin 3) ∈ (pairGather H N C E wf).startIndexMap := List.mem_cons_of_mem _ List.mem_cons_self
    show (pairGather H N C E wf).start (ix2 e c) idx 1 + 0 + (pairGather H N C E wf).offCoord (ix2 e c) 1 = _
    rw [GatherDims.offCoord_eq_zero _ _ _
      (fun h => ((GatherDims.mem_sKept _ _).mp h).1 (List.mem_cons_of_mem _ List.mem_cons_self))]
    unfold GatherDims.start
    rw [dif_pos hm]
    have hsi : (pairGather H N C E wf).siIdx (ix2 e c) ⟨List.idxOf (1 : Fin 3) (pairGather H N C E wf).startIndexMap,
        List.idxOf_lt_length_iff.2 hm⟩ = ix2 e 1 := by
      funext b; refine Fin.ext ?_
      match b with
      | ⟨0, _⟩ => rfl
      | ⟨1, _⟩ => rfl
    rw [hsi]
    rfl
  | ⟨2, _⟩ =>
    have hm : (2 : Fin 3) ∉ (pairGather H N C E wf).startIndexMap := by
      show (2 : Fin 3) ∉ ([0, 1] : List (Fin 3)); decide
    show (pairGather H N C E wf).start (ix2 e c) idx 2 + 0 + (pairGather H N C E wf).offCoord (ix2 e c) 2 = c.val
    unfold GatherDims.start
    rw [dif_neg hm, Nat.zero_add]
    rfl

end Gather

section Scatter

/-- The dimension numbers of `x.at[idx].add(u)` for a vector `x` of `N` elements and `E` updates. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of `x.at[idx].add(u)` for a table `x` of `N` rows of `C` elements and `E` rows of updates. -/
abbrev rowScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `e` of a scatter into a vector lands at element `i` exactly when its index, read signed, is `i`. -/
theorem vecScatter_lands {N E w : Nat} (wf : ScatterDims.WF ⟨1, ![N]⟩ ⟨2, ![E, 1]⟩ ⟨1, ![E]⟩ [] [0] [0] 1)
    (idx : IVec ⟨2, ![E, 1]⟩ w) (e : Fin E) (i : Fin N) :
    (vecScatter N E wf).resultIdx? (ix1 e) idx = some (ix1 i) ↔ (idx (ix2 e 0)).toInt = (i.val : Int) := by
  have hm : (0 : Fin 1) ∈ (vecScatter N E wf).scatterDimsToOperandDims := List.mem_singleton.mpr rfl
  have hsi : (vecScatter N E wf).siIdx (ix1 e) ⟨List.idxOf (0 : Fin 1) (vecScatter N E wf).scatterDimsToOperandDims,
      List.idxOf_lt_length_iff.2 hm⟩ = ix2 e 0 := by
    funext b; refine Fin.ext ?_
    match b with
    | ⟨0, _⟩ => rfl
    | ⟨1, _⟩ => rfl
  have hs : (vecScatter N E wf).start (ix1 e) idx 0 = (idx (ix2 e 0)).toInt := by
    unfold ScatterDims.start
    rw [dif_pos hm, hsi]
  have hw : (vecScatter N E wf).window (ix1 e) 0 = 0 := rfl
  rw [Routing.resultIdx?_eq_some]
  constructor
  · intro h
    have h0 := h 0
    rw [hs, hw] at h0
    simpa using h0
  · intro h a
    obtain rfl : a = 0 := Subsingleton.elim _ _
    rw [hs, hw, h]
    simp

/-- Update `(e, c)` of a scatter of rows lands at element `(i, k)` exactly when row `e`'s index, read signed, is `i` and
    `c` is `k`. -/
theorem rowScatter_lands {N C E w : Nat} (wf : ScatterDims.WF ⟨2, ![N, C]⟩ ⟨2, ![E, 1]⟩ ⟨2, ![E, C]⟩ [1] [0] [0] 1)
    (idx : IVec ⟨2, ![E, 1]⟩ w) (e : Fin E) (c : Fin C) (i : Fin N) (k : Fin C) :
    (rowScatter N C E wf).resultIdx? (ix2 e c) idx = some (ix2 i k) ↔ (idx (ix2 e 0)).toInt = (i.val : Int) ∧ c = k := by
  have hm : (0 : Fin 2) ∈ (rowScatter N C E wf).scatterDimsToOperandDims := List.mem_singleton.mpr rfl
  have hm1 : (1 : Fin 2) ∉ (rowScatter N C E wf).scatterDimsToOperandDims := by
    show (1 : Fin 2) ∉ ([0] : List (Fin 2)); decide
  have hsi : (rowScatter N C E wf).siIdx (ix2 e c) ⟨List.idxOf (0 : Fin 2) (rowScatter N C E wf).scatterDimsToOperandDims,
      List.idxOf_lt_length_iff.2 hm⟩ = ix2 e 0 := by
    funext b; refine Fin.ext ?_
    match b with
    | ⟨0, _⟩ => rfl
    | ⟨1, _⟩ => rfl
  have hs : (rowScatter N C E wf).start (ix2 e c) idx 0 = (idx (ix2 e 0)).toInt := by
    unfold ScatterDims.start
    rw [dif_pos hm, hsi]
  have hs1 : (rowScatter N C E wf).start (ix2 e c) idx 1 = 0 := by
    unfold ScatterDims.start
    rw [dif_neg hm1]
  have hw : (rowScatter N C E wf).window (ix2 e c) 0 = 0 := rfl
  have hw1 : (rowScatter N C E wf).window (ix2 e c) 1 = c.val := rfl
  rw [Routing.resultIdx?_eq_some]
  constructor
  · intro h
    have h0 := h 0
    have h1 := h 1
    rw [hs, hw] at h0
    rw [hs1, hw1] at h1
    refine ⟨by simpa using h0, Fin.ext ?_⟩
    have h2 : (0 : Int) + (c.val : Int) = (k.val : Int) := h1
    omega
  · rintro ⟨h, rfl⟩ a
    match a with
    | ⟨0, _⟩ =>
      show (rowScatter N C E wf).start (ix2 e c) idx 0 + ((rowScatter N C E wf).window (ix2 e c) 0 : Int) = _
      rw [hs, hw, h]
      simp
    | ⟨1, _⟩ =>
      show (rowScatter N C E wf).start (ix2 e c) idx 1 + ((rowScatter N C E wf).window (ix2 e c) 1 : Int) = _
      rw [hs1, hw1]
      simp

/-- Element `i` of an accumulating scatter into a vector: the operand's element plus the sum of the updates whose index,
    read signed, is `i`. -/
theorem vecScatterAdd_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (u : FVec Ideal ⟨1, ![E]⟩ φ) (i : Fin N) :
    (Host.scatterAdd (vecScatter N E wf) x idx u (ix1 i) : EReal)
      = x (ix1 i) + ∑ e ∈ Finset.univ.filter (fun e : Fin E => (idx (ix2 e 0)).toInt = (i.val : Int)), u (ix1 e) := by
  show x (ix1 i) + ∑ j ∈ Finset.univ.filter (fun j => (vecScatter N E wf).resultIdx? j idx = some (ix1 i)), u j = _
  congr 1
  rw [Finset.sum_filter, Finset.sum_filter, sum_idx1]
  exact Finset.sum_congr rfl fun e _ => if_congr (vecScatter_lands wf idx e i) rfl rfl

/-- Element `(i, k)` of an accumulating scatter of rows: the operand's element plus the sum of the elements `k` of the
    rows of updates whose index, read signed, is `i`. -/
theorem rowScatterAdd_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (u : FVec Ideal ⟨2, ![E, C]⟩ φ) (i : Fin N) (k : Fin C) :
    (Host.scatterAdd (rowScatter N C E wf) x idx u (ix2 i k) : EReal)
      = x (ix2 i k) + ∑ e ∈ Finset.univ.filter (fun e : Fin E => (idx (ix2 e 0)).toInt = (i.val : Int)), u (ix2 e k) := by
  show x (ix2 i k) + ∑ j ∈ Finset.univ.filter (fun j => (rowScatter N C E wf).resultIdx? j idx = some (ix2 i k)), u j = _
  congr 1
  rw [Finset.sum_filter, Finset.sum_filter, sum_idx2]
  refine Finset.sum_congr rfl fun e _ => ?_
  rw [Finset.sum_eq_single k]
  · exact if_congr ((rowScatter_lands wf idx e k i k).trans (and_iff_left rfl)) rfl rfl
  · intro c _ hc
    exact if_neg fun h => hc ((rowScatter_lands wf idx e c i k).mp h).2
  · intro h; exact absurd (Finset.mem_univ k) h

end Scatter

end Cert.Proof

end
-- ==== Proof.Algebra.lean ====
/-
  The algebra of the two layers over the extended reals: a factor that is nonnegative and finite moves through a finite
  sum and through a product, sums are exchanged, and a graph convolution that scales rows by the degrees' inverse square
  roots before and after it sums over the edges is the one that scales each edge's message.
-/
module

public import Idealize.ShloMosaic.PureOps.Ideal

@[expose] public section

noncomputable section

namespace Cert.Proof

open Idealize.ShloMosaic

/-- A nonnegative finite factor distributes over a finite sum, from the left. -/
theorem mul_sum_of_finite {ι : Type*} (s : Finset ι) (f : ι → EReal) {a : EReal} (h0 : 0 ≤ a) (ht : a ≠ ⊤) :
    a * ∑ e ∈ s, f e = ∑ e ∈ s, a * f e := by
  classical
  induction s using Finset.induction_on with
  | empty => simp
  | insert b s hb ih =>
    rw [Finset.sum_insert hb, Finset.sum_insert hb, EReal.left_distrib_of_nonneg_of_ne_top h0 ht, ih]

/-- Any factor distributes over a finite sum of nonnegative terms, from the right. -/
theorem sum_mul_of_nonneg {ι : Type*} (s : Finset ι) (f : ι → EReal) (a : EReal) (h0 : ∀ e ∈ s, 0 ≤ f e) :
    (∑ e ∈ s, f e) * a = ∑ e ∈ s, f e * a := by
  classical
  induction s using Finset.induction_on with
  | empty => simp
  | insert b s hb ih =>
    have hs : ∀ e ∈ s, 0 ≤ f e := fun e he => h0 e (Finset.mem_insert_of_mem he)
    rw [Finset.sum_insert hb, Finset.sum_insert hb,
      EReal.right_distrib_of_nonneg (h0 b (Finset.mem_insert_self b s)) (Finset.sum_nonneg hs), ih hs]

/-- The inverse square root of an extended real that is at least one is nonnegative. -/
theorem rsqrt_nonneg {x : EReal} (h : 1 ≤ x) : 0 ≤ Ideal.rsqrt x := by
  induction x with
  | bot => exact absurd (le_bot_iff.mp h) (EReal.coe_ne_bot 1)
  | top => simp
  | coe r =>
    have hr : (1 : ℝ) ≤ r := by exact_mod_cast h
    rw [Ideal.rsqrt_coe, if_neg (by linarith), if_neg (by linarith)]
    exact_mod_cast inv_nonneg.mpr (Real.sqrt_nonneg r)

/-- The inverse square root of an extended real that is at least one is finite. -/
theorem rsqrt_ne_top {x : EReal} (h : 1 ≤ x) : Ideal.rsqrt x ≠ ⊤ := by
  induction x with
  | bot => exact absurd (le_bot_iff.mp h) (EReal.coe_ne_bot 1)
  | top => simp
  | coe r =>
    have hr : (1 : ℝ) ≤ r := by exact_mod_cast h
    rw [Ideal.rsqrt_coe, if_neg (by linarith), if_neg (by linarith)]
    exact EReal.coe_ne_top _

section Layers
variable {E N : Type*} [Fintype E] (S : N → Finset E) (s d : E → N) (r : N → EReal)

/-- FIRST LAYER: scaling each edge's message by the two inverse square roots, summing over the edges that arrive at `i`
    and contracting with the weights is scaling by the source's before the sum and by the node's after the
    contraction. -/
theorem layer_scaled {K : Type*} [Fintype K] (hd : ∀ i, ∀ e ∈ S i, d e = i) (h0 : ∀ i, 0 ≤ r i) (ht : ∀ i, r i ≠ ⊤)
    (x : N → K → EReal) (w : K → EReal) (i : N) :
    ∑ c, (∑ e ∈ S i, x (s e) c * (r (s e) * r (d e))) * w c = r i * ∑ c, (∑ e ∈ S i, x (s e) c * r (s e)) * w c := by
  rw [mul_sum_of_finite _ _ (h0 i) (ht i)]
  refine Finset.sum_congr rfl fun c _ => ?_
  rw [← mul_assoc, mul_sum_of_finite _ _ (h0 i) (ht i)]
  congr 1
  refine Finset.sum_congr rfl fun e he => ?_
  rw [hd i e he, ← mul_assoc, mul_comm]

/-- SECOND LAYER: the rows are nonnegative, so contracting with the weights before the sum over the edges, where the
    source's inverse square root scales the contracted row, gives the same as contracting after it. -/
theorem layer_contracted {K : Type*} [Fintype K] (hd : ∀ i, ∀ e ∈ S i, d e = i) (h0 : ∀ i, 0 ≤ r i) (ht : ∀ i, r i ≠ ⊤)
    (p : N → K → EReal) (hp : ∀ i k, 0 ≤ p i k) (w : K → EReal) (i : N) :
    ∑ c, (∑ e ∈ S i, p (s e) c * (r (s e) * r (d e))) * w c = r i * ∑ e ∈ S i, r (s e) * ∑ c, p (s e) c * w c := by
  rw [layer_scaled S s d r hd h0 ht]
  congr 1
  have h : ∀ c, (∑ e ∈ S i, p (s e) c * r (s e)) * w c = ∑ e ∈ S i, p (s e) c * r (s e) * w c := fun c =>
    sum_mul_of_nonneg _ _ _ fun e _ => mul_nonneg (hp _ _) (h0 _)
  rw [Finset.sum_congr rfl fun c _ => h c, Finset.sum_comm]
  refine Finset.sum_congr rfl fun e _ => ?_
  rw [mul_sum_of_finite _ _ (h0 _) (ht _)]
  exact Finset.sum_congr rfl fun c _ => by rw [mul_comm (p (s e) c), mul_assoc]

end Layers

end Cert.Proof

end
-- ==== Proof.Spec.lean ====
/-
  The two-layer graph convolution as plain sums over nodes, edges and features, in the two orders of computation that the
  reference and the kernel use, and their equality.
-/
module

public import proofs.«01_k».proof.Proof.Index
public import proofs.«01_k».proof.Proof.Algebra

@[expose] public section

noncomputable section

namespace Cert.Proof

open Idealize.ShloMosaic

/-- A node index as the programs take it: 10000 is added to a word that is negative. -/
def wrapWord (v : BitVec 32) : BitVec 32 := Scalar.select (IntOp.cmpi .slt v 0#32) (IntOp.addi v 10000#32) v

/-- The edge list: row 0 the source of each of the 160000 edges, row 1 its destination. -/
abbrev Edges : Type := (⟨2, ![2, 160000]⟩ : Shape).Idx → BitVec 32

/-- A matrix of extended reals of literal extents. -/
abbrev Mat (a b : Nat) : Type := (⟨2, ![a, b]⟩ : Shape).Idx → EReal

/-- A vector of extended reals of literal extent. -/
abbrev Vct (a : Nat) : Type := (⟨1, ![a]⟩ : Shape).Idx → EReal

/-- The word at row `r` of edge `e`, wrapped. -/
def edgeWord (ei : Edges) (r : Fin 2) (e : Fin 160000) : BitVec 32 := wrapWord (ei (ix2 r e))

/-- The edges whose destination is the node `i`. -/
def edgesTo (ei : Edges) (i : Fin 10000) : Finset (Fin 160000) :=
  Finset.univ.filter fun e => (edgeWord ei 1 e).toInt = (i.val : Int)

/-- The node that a gather reads for row `r` of edge `e`. -/
def nodeOf (ei : Edges) (r : Fin 2) (e : Fin 160000) : Fin 10000 := clampTo 10000 (by decide) (edgeWord ei r e)

/-- The number of edges that arrive at node `i`. -/
def degree (ei : Edges) (i : Fin 10000) : EReal := ∑ _e ∈ edgesTo ei i, (1 : EReal)

/-- The inverse square root of a node's degree, a degree below one counting as one. -/
def scale (ei : Edges) (i : Fin 10000) : EReal := Ideal.rsqrt (max 1 (degree ei i))

/-- The rows summed over the edges that arrive at `i`, each edge scaled at both its ends: the reference's aggregation. -/
def aggregate (ei : Edges) {C : Nat} (f : Fin 10000 → Fin C → EReal) (i : Fin 10000) (c : Fin C) : EReal :=
  ∑ e ∈ edgesTo ei i, f (nodeOf ei 0 e) c * (scale ei (nodeOf ei 0 e) * scale ei (nodeOf ei 1 e))

/-- The rows summed over the edges that arrive at `i`, unscaled: the kernel's aggregation. -/
def gatherSum (ei : Edges) {C : Nat} (f : Fin 10000 → Fin C → EReal) (i : Fin 10000) (c : Fin C) : EReal :=
  ∑ e ∈ edgesTo ei i, f (nodeOf ei 0 e) c

/-- The hidden layer as the reference computes it. -/
def hiddenRef (x : Mat 10000 256) (ei : Edges) (w1 : Mat 256 256) (b1 : Vct 256) (i : Fin 10000) (k : Fin 256) : EReal :=
  max (∑ c, aggregate ei (fun n c => x (ix2 n c)) i c * w1 (ix2 c k) + b1 (ix1 k)) 0

/-- The output as the reference computes it. -/
def outRef (x : Mat 10000 256) (ei : Edges) (w1 : Mat 256 256) (b1 : Vct 256) (w2 : Mat 256 64) (b2 : Vct 64)
    (i : Fin 10000) (j : Fin 64) : EReal :=
  ∑ k, aggregate ei (hiddenRef x ei w1 b1) i k * w2 (ix2 k j) + b2 (ix1 j)

/-- The hidden layer as the kernel computes it: the features in two halves of 128. -/
def hiddenKer (x : Mat 10000 256) (ei : Edges) (w1 : Mat 256 256) (b1 : Vct 256) (i : Fin 10000) (k : Fin 256) : EReal :=
  max (scale ei i * ((∑ c : Fin 128, gatherSum ei (fun n c => x (ix2 n c) * scale ei n) i (⟨c.val, by omega⟩ : Fin 256)
          * w1 (ix2 ⟨c.val, by omega⟩ k))
        + ∑ c : Fin 128, gatherSum ei (fun n c => x (ix2 n c) * scale ei n) i (⟨128 + c.val, by omega⟩ : Fin 256)
          * w1 (ix2 ⟨128 + c.val, by omega⟩ k)) + b1 (ix1 k)) 0

/-- The hidden rows contracted with the second layer's weights and scaled, as the kernel computes them before its second
    aggregation. -/
def contracted (x : Mat 10000 256) (ei : Edges) (w1 : Mat 256 256) (b1 : Vct 256) (w2 : Mat 256 64)
    (i : Fin 10000) (j : Fin 64) : EReal :=
  scale ei i * ∑ k, hiddenKer x ei w1 b1 i k * w2 (ix2 k j)

/-- The output as the kernel computes it. -/
def outKer (x : Mat 10000 256) (ei : Edges) (w1 : Mat 256 256) (b1 : Vct 256) (w2 : Mat 256 64) (b2 : Vct 64)
    (i : Fin 10000) (j : Fin 64) : EReal :=
  scale ei i * gatherSum ei (contracted x ei w1 b1 w2) i j + b2 (ix1 j)

/-- A node's scale is nonnegative. -/
theorem scale_nonneg (ei : Edges) (i : Fin 10000) : 0 ≤ scale ei i := rsqrt_nonneg (le_max_left _ _)

/-- A node's scale is finite. -/
theorem scale_ne_top (ei : Edges) (i : Fin 10000) : scale ei i ≠ ⊤ := rsqrt_ne_top (le_max_left _ _)

/-- The edges that arrive at `i` have `i` for the destination that a gather reads. -/
theorem nodeOf_dst (ei : Edges) (i : Fin 10000) (e : Fin 160000) (he : e ∈ edgesTo ei i) : nodeOf ei 1 e = i :=
  clampTo_of_toInt _ _ i (Finset.mem_filter.mp he).2

/-- A sum over 256 features is the sum over the first 128 and the sum over the last 128. -/
theorem sum_halves (f : Fin 256 → EReal) :
    ∑ c, f c = (∑ c : Fin 128, f ⟨c.val, by omega⟩) + ∑ c : Fin 128, f ⟨128 + c.val, by omega⟩ :=
  Fin.sum_univ_add (a := 128) (b := 128) f

/-- The hidden layers agree. -/
theorem hidden_eq (x : Mat 10000 256) (ei : Edges) (w1 : Mat 256 256) (b1 : Vct 256) :
    hiddenRef x ei w1 b1 = hiddenKer x ei w1 b1 := by
  funext i k
  unfold hiddenRef hiddenKer
  rw [← sum_halves fun c => gatherSum ei (fun n c => x (ix2 n c) * scale ei n) i c * w1 (ix2 c k)]
  simp only [aggregate, gatherSum]
  rw [layer_scaled (edgesTo ei) (nodeOf ei 0) (nodeOf ei 1) (scale ei) (nodeOf_dst ei) (scale_nonneg ei) (scale_ne_top ei)
    (fun n c => x (ix2 n c)) (fun c => w1 (ix2 c k)) i]

/-- THE OUTPUTS AGREE: at every node and output feature, the reference's order of computation and the kernel's give the same
    extended real. -/
theorem out_eq (x : Mat 10000 256) (ei : Edges) (w1 : Mat 256 256) (b1 : Vct 256) (w2 : Mat 256 64) (b2 : Vct 64)
    (i : Fin 10000) (j : Fin 64) : outRef x ei w1 b1 w2 b2 i j = outKer x ei w1 b1 w2 b2 i j := by
  unfold outRef outKer
  rw [hidden_eq]
  simp only [aggregate, gatherSum, contracted]
  rw [layer_contracted (edgesTo ei) (nodeOf ei 0) (nodeOf ei 1) (scale ei) (nodeOf_dst ei) (scale_nonneg ei)
    (scale_ne_top ei) (hiddenKer x ei w1 b1) (fun i k => le_max_right _ _) (fun k => w2 (ix2 k j)) i]

end Cert.Proof

end
-- ==== Proof.RefValue.lean ====
/-
  The reference's result at an index: its host operations read one after the other, as the plain sums of the
  specification.
-/
module

public import proofs.«01_k».proof.Proof.Spec
public import proofs.«01_k».proof.Proof.Gen.ReferenceIdeal.Run

@[expose] public section

set_option maxRecDepth 16384

noncomputable section

namespace Cert.Proof

open Idealize.ShloMosaic
open Cert.ReferenceIdeal Cert.ReferenceIdeal.Gen Cert.ReferenceIdeal.Value

namespace Ref

/-- The column of wrapped indices that the reference makes of row `r` of the edge list. -/
def column (r : Nat) (hs : S2x160000.Slices ![r, 0] S1x160000) (ei : IVec S2x160000 32) : IVec S160000x1 32 :=
  broadcastInDim S160000x1 ![0] bcast_S160000_S160000x1_0 (select (cmpi .slt (shapeCast _ (extractStridedSlice S1x160000 ![r, 0] ei hs) shapeCasts_S1x160000_S160000) (broadcastInDim S160000 ![] bcast_S_S160000 (constantI S_ 32 0#32))) (addi (shapeCast _ (extractStridedSlice S1x160000 ![r, 0] ei hs) shapeCasts_S1x160000_S160000) (broadcastInDim S160000 ![] bcast_S_S160000 (constantI S_ 32 10000#32))) (shapeCast _ (extractStridedSlice S1x160000 ![r, 0] ei hs) shapeCasts_S1x160000_S160000))

/-- The degrees the reference gathers from: at least one. -/
def degrees (d : IVec S160000x1 32) : FVec Ideal S10000 .f32 :=
  maximumf (broadcastInDim S10000 ![] bcast_S_S10000 (id (constant S_ .f32 0x3F800000#32))) (Host.scatterAdd scatter_S10000_S160000x1_S160000_n_0_0_1 (broadcastInDim S10000 ![] bcast_S_S10000 (constant S_ .f32 0x00000000#32)) d (broadcastInDim S160000 ![] bcast_S_S160000 (constant S_ .f32 0x3F800000#32)))

/-- The factor of each edge: the inverse square roots of its two ends' degrees, multiplied. -/
def edgeFactor (s d : IVec S160000x1 32) : FVec Ideal S160000 .f32 :=
  mulf (Host.rsqrt (Host.gather gather_S10000_S160000x1_S160000_n_0_n_n_0_1_1 (degrees d) s)) (Host.rsqrt (Host.gather gather_S10000_S160000x1_S160000_n_0_n_n_0_1_1 (degrees d) d))

/-- One aggregation: rows gathered at the sources, scaled by the edges' factors, summed at the destinations. -/
def gathered (s d : IVec S160000x1 32) (f : FVec Ideal S10000x256 .f32) : FVec Ideal S10000x256 .f32 :=
  Host.scatterAdd scatter_S10000x256_S160000x1_S160000x256_1_0_0_1 (broadcastInDim S10000x256 ![] bcast_S_S10000x256 (constant S_ .f32 0x00000000#32)) d (mulf (Host.gather gather_S10000x256_S160000x1_S160000x256_1_0_n_n_0_1_1256 f s) (broadcastInDim S160000x256 ![0, 1] bcast_S160000x1_S160000x256_0_1 (broadcastInDim S160000x1 ![0] bcast_S160000_S160000x1_0 (edgeFactor s d))))

/-- Entry `e` of a column of indices is the wrapped word of row `r` of edge `e`. -/
theorem column0_apply (ei : IVec S2x160000 32) (e : Fin 160000) :
    column 0 slices_S2x160000_S1x160000_0_0 ei (ix2 e 0) = edgeWord ei 0 e := by
  pointwise [column]
  rfl

/-- Entry `e` of the destinations' column is the wrapped word of row 1 of edge `e`. -/
theorem column1_apply (ei : IVec S2x160000 32) (e : Fin 160000) :
    column 1 slices_S2x160000_S1x160000_1_0 ei (ix2 e 0) = edgeWord ei 1 e := by
  pointwise [column]
  rfl

section Columns
variable (ei : Edges) (s d : IVec S160000x1 32) (hs : ∀ e : Fin 160000, s (ix2 e 0) = edgeWord ei 0 e)
  (hd : ∀ e : Fin 160000, d (ix2 e 0) = edgeWord ei 1 e)

include hd in
/-- A node's degree, at least one. -/
theorem degrees_apply (i : Fin 10000) : (degrees d (ix1 i) : EReal) = max 1 (degree ei i) := by
  have h : ∀ u : FVec Ideal S160000 .f32, ∀ z : FVec Ideal S10000 .f32,
      (Host.scatterAdd scatter_S10000_S160000x1_S160000_n_0_0_1 z d u (ix1 i) : EReal)
        = z (ix1 i) + ∑ e ∈ edgesTo ei i, u (ix1 e) := fun u z => by
    refine (vecScatterAdd_apply scatter_S10000_S160000x1_S160000_n_0_0_1.wf z d u i).trans ?_
    simp only [hd, edgesTo]
  pointwise [degrees, id_eq]
  rw [h]
  pointwise
  rw [degree]

include hs hd in
/-- An edge's factor is the product of its ends' scales. -/
theorem edgeFactor_apply (e : Fin 160000) :
    (edgeFactor s d (ix1 e) : EReal) = scale ei (nodeOf ei 0 e) * scale ei (nodeOf ei 1 e) := by
  have h : ∀ ix : IVec S160000x1 32, Host.gather gather_S10000_S160000x1_S160000_n_0_n_n_0_1_1 (degrees d) ix (ix1 e)
      = degrees d (ix1 (clampTo 10000 (by decide) (ix (ix2 e 0)))) := fun ix =>
    vecGather_apply (by decide) gather_S10000_S160000x1_S160000_n_0_n_n_0_1_1.wf (degrees d) ix e
  pointwise [edgeFactor]
  rw [h, h, hs, hd, degrees_apply ei d hd, degrees_apply ei d hd]
  rfl

include hs hd in
/-- One aggregation at a node and a feature. -/
theorem gathered_apply (f : FVec Ideal S10000x256 .f32) (i : Fin 10000) (c : Fin 256) :
    (gathered s d f (ix2 i c) : EReal) = aggregate ei (fun n c => f (ix2 n c)) i c := by
  refine (rowScatterAdd_apply scatter_S10000x256_S160000x1_S160000x256_1_0_0_1.wf _ d _ i c).trans ?_
  have h : ∀ e : Fin 160000, (Host.gather gather_S10000x256_S160000x1_S160000x256_1_0_n_n_0_1_1256 f s (ix2 e c) : EReal)
      = f (ix2 (nodeOf ei 0 e) c) := fun e => by
    refine (rowGather_apply (by decide) gather_S10000x256_S160000x1_S160000x256_1_0_n_n_0_1_1256.wf f s e c).trans ?_
    rw [hs]; rfl
  pointwise
  simp only [hd, h, edgeFactor_apply ei s d hs hd]
  rw [aggregate, edgesTo]

end Columns

/-- The hidden layer's array. -/
def hidden (s d : IVec S160000x1 32) (x : FVec Ideal S10000x256 .f32) (w1 : FVec Ideal S256x256 .f32) (b1 : FVec Ideal S256 .f32) :
    FVec Ideal S10000x256 .f32 :=
  maximumf (addf (Host.dotGeneral dot_S10000x256_S256x256_S10000x256_1_0_0_1_n_n none (gathered s d x) w1) (broadcastInDim S10000x256 ![0, 1] bcast_S1x256_S10000x256_0_1 (broadcastInDim S1x256 ![1] bcast_S256_S1x256_1 b1))) (broadcastInDim S10000x256 ![] bcast_S_S10000x256 (constant S_ .f32 0x00000000#32))

/-- The result's array. -/
def result (s d : IVec S160000x1 32) (x : FVec Ideal S10000x256 .f32) (w1 : FVec Ideal S256x256 .f32) (b1 : FVec Ideal S256 .f32)
    (w2 : FVec Ideal S256x64 .f32) (b2 : FVec Ideal S64 .f32) : FVec Ideal S10000x64 .f32 :=
  addf (Host.dotGeneral dot_S10000x256_S256x64_S10000x64_1_0_0_1_n_n none (gathered s d (hidden s d x w1 b1)) w2) (broadcastInDim S10000x64 ![0, 1] bcast_S1x64_S10000x64_0_1 (broadcastInDim S1x64 ![1] bcast_S64_S1x64_1 b2))

/-- The result's array at a node and an output feature is the specification's. -/
theorem result_apply (ei : Edges) (s d : IVec S160000x1 32) (hs : ∀ e : Fin 160000, s (ix2 e 0) = edgeWord ei 0 e)
    (hd : ∀ e : Fin 160000, d (ix2 e 0) = edgeWord ei 1 e) (x : FVec Ideal S10000x256 .f32) (w1 : FVec Ideal S256x256 .f32)
    (b1 : FVec Ideal S256 .f32) (w2 : FVec Ideal S256x64 .f32) (b2 : FVec Ideal S64 .f32) (i : Fin 10000) (j : Fin 64) :
    (result s d x w1 b1 w2 b2 (ix2 i j) : EReal) = outRef x ei w1 b1 w2 b2 i j := by
  have hh : ∀ n k, (hidden s d x w1 b1 (ix2 n k) : EReal) = hiddenRef x ei w1 b1 n k := fun n k => by
    pointwise [hidden]
    simp only [gathered_apply ei s d hs hd]
    rfl
  pointwise [result]
  simp only [gathered_apply ei s d hs hd, hh]
  rfl

/-- The reference's result, as the specification's outputs at its argument arrays. -/
theorem res_apply (m : (ℓ : Loc nD τ sig) → Buf (Elt Ideal) ℓ) (c : Dev nD) (i : Fin 10000) (j : Fin 64) :
    (res_main_v102 m c (ix2 i j) : EReal)
      = outRef (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6)) i j := by
  have h : res_main_v102 m c = result (column 0 slices_S2x160000_S1x160000_0_0 (m ((c.tc : Thread nD τ).loc main_arg1)))
      (column 1 slices_S2x160000_S1x160000_1_0 (m ((c.tc : Thread nD τ).loc main_arg1)))
      (m ((c.tc : Thread nD τ).loc main_arg0)) (m ((c.tc : Thread nD τ).loc main_arg3)) (m ((c.tc : Thread nD τ).loc main_arg4))
      (m ((c.tc : Thread nD τ).loc main_arg5)) (m ((c.tc : Thread nD τ).loc main_arg6)) := rfl
  rw [h]
  exact result_apply _ _ _ (column0_apply _) (column1_apply _) _ _ _ _ _ i j

end Ref

end Cert.Proof

end
-- ==== Proof.KernelRun.lean ====
/-
  The idealized kernel's run: every execution ends with each buffer of the TensorCore's thread at what the fold over the
  program's stretches and regions leaves there, so the result array is at that fold's value and the arguments are as
  launched.
-/
module

public import proofs.«01_k».proof.Proof.Gen.KernelIdeal.Frame

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- From any memory with zero counters, every weakly fair execution of the idealized kernel terminates, nothing faulting,
    with each unscoped buffer of each device at the value that the last boundary of the fold gives it. -/
theorem kernel_buffers : θ_run defs (onTc (τ := τ) (main (F := F))) ⟨m, fun _ => 0, ρ⟩ (fun r =>
      ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

/-- Every weakly fair execution of the idealized kernel ends with the result array at the fold's last value and the seven
    argument arrays as launched. -/
theorem kernel_result : θ_run defs (onTc (τ := τ) (main (F := F))) ⟨m, fun _ => 0, ρ⟩ (fun r => ∀ c : Dev nD,
      r.2.mem ((c.tc : Thread nD τ).loc main_v102) = W6 m ρ c main_v102
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v102 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩) (kernel_buffers m ρ)

end Cert.Proof

end
-- ==== Proof.HostValue.lean ====
/-
  The kernel's host operations read at an index: the degrees before the first region, and the aggregations of rows before
  the second and the third, each over a stack of two half-width tables.
-/
module

public import proofs.«01_k».proof.Proof.Spec
public import proofs.«01_k».proof.Proof.Gen.KernelIdeal.Frame

@[expose] public section

set_option maxRecDepth 16384

noncomputable section

namespace Cert.Proof

open Idealize.ShloMosaic Idealize.ShloMosaic.TcCoe Idealize.ShloMosaic.Tactic
open Cert.KernelIdeal Cert.KernelIdeal.Gen

namespace Ker

/-- The column of wrapped indices of a vector of indices. -/
def wrapCol (v : IVec S160000 32) : IVec S160000x1 32 :=
  broadcastInDim S160000x1 ![0] bcast_S160000_S160000x1_0 (select (cmpi .slt v (broadcastInDim S160000 ![] bcast_S_S160000 (constantI S_ 32 0#32))) (addi v (broadcastInDim S160000 ![] bcast_S_S160000 (constantI S_ 32 10000#32))) v)

/-- The pairs of the table's number `h` and a wrapped index. -/
def pairCol (h : BitVec 32) (v : IVec S160000 32) : IVec S160000x2 32 :=
  concatenate S160000x2 1 [⟨S160000x1, broadcastInDim S160000x1 ![0] bcast_S160000_S160000x1_0 (id (broadcastInDim S160000 ![] bcast_S_S160000 (constantI S_ 32 h)))⟩, ⟨S160000x1, wrapCol v⟩] concatenates_S160000x1_S160000x1_S160000x2_d1

/-- The degrees: one for each edge, summed at its destination, as a column. -/
def degCol (d : IVec S160000 32) : FVec Ideal S10000x1 .f32 :=
  shapeCast S10000x1 (Host.scatterAdd scatter_S10000_S160000x1_S160000_n_0_0_1 (broadcastInDim S10000 ![] bcast_S_S10000 (constant S_ .f32 0x00000000#32)) (wrapCol d) (broadcastInDim S160000 ![] bcast_S_S160000 (constant S_ .f32 0x3F800000#32))) shapeCasts_S10000_S10000x1

/-- One half's aggregation of rows of 128 features. -/
def agg128 (h : BitVec 32) (s d : IVec S160000 32) (x : FVec Ideal S2x10000x128 .f32) : FVec Ideal S10000x128 .f32 :=
  Host.scatterAdd scatter_S10000x128_S160000x1_S160000x128_1_0_0_1 (broadcastInDim S10000x128 ![] bcast_S_S10000x128 (constant S_ .f32 0x00000000#32)) (wrapCol d) (Host.gather gather_S2x10000x128_S160000x2_S160000x128_1_01_n_n_01_1_11128 x (pairCol h s))

/-- The two halves' aggregations of rows of 128 features, stacked. -/
def stack128 (s d : IVec S160000 32) (x : FVec Ideal S2x10000x128 .f32) : FVec Ideal S2x10000x128 .f32 :=
  concatenate S2x10000x128 0 [⟨S1x10000x128, broadcastInDim S1x10000x128 ![1, 2] bcast_S10000x128_S1x10000x128_1_2 (agg128 0#32 s d x)⟩, ⟨S1x10000x128, broadcastInDim S1x10000x128 ![1, 2] bcast_S10000x128_S1x10000x128_1_2 (agg128 1#32 s d x)⟩] concatenates_S1x10000x128_S1x10000x128_S2x10000x128_d0

/-- One half's aggregation of rows of 32 features. -/
def agg32 (h : BitVec 32) (s d : IVec S160000 32) (x : FVec Ideal S2x10000x32 .f32) : FVec Ideal S10000x32 .f32 :=
  Host.scatterAdd scatter_S10000x32_S160000x1_S160000x32_1_0_0_1 (broadcastInDim S10000x32 ![] bcast_S_S10000x32 (constant S_ .f32 0x00000000#32)) (wrapCol d) (Host.gather gather_S2x10000x32_S160000x2_S160000x32_1_01_n_n_01_1_1132 x (pairCol h s))

/-- The two halves' aggregations of rows of 32 features, stacked. -/
def stack32 (s d : IVec S160000 32) (x : FVec Ideal S2x10000x32 .f32) : FVec Ideal S2x10000x32 .f32 :=
  concatenate S2x10000x32 0 [⟨S1x10000x32, broadcastInDim S1x10000x32 ![1, 2] bcast_S10000x32_S1x10000x32_1_2 (agg32 0#32 s d x)⟩, ⟨S1x10000x32, broadcastInDim S1x10000x32 ![1, 2] bcast_S10000x32_S1x10000x32_1_2 (agg32 1#32 s d x)⟩] concatenates_S1x10000x32_S1x10000x32_S2x10000x32_d0

/-- Entry `e` of a column of indices is entry `e` of the vector, wrapped. -/
theorem wrapCol_apply (v : IVec S160000 32) (e : Fin 160000) : wrapCol v (ix2 e 0) = wrapWord (v (ix1 e)) := by
  pointwise [wrapCol]
  rfl

/-- The first word of a pair is the table's number. -/
theorem pairCol_fst (h : BitVec 32) (v : IVec S160000 32) (e : Fin 160000) : pairCol h v (ix2 e 0) = h := by
  pointwise [pairCol, id_eq]

/-- The second word of a pair is the wrapped index. -/
theorem pairCol_snd (h : BitVec 32) (v : IVec S160000 32) (e : Fin 160000) : pairCol h v (ix2 e 1) = wrapWord (v (ix1 e)) := by
  pointwise [pairCol]
  exact wrapCol_apply v e

section Edges
variable (ei : Edges) (s d : IVec S160000 32) (hs : ∀ e : Fin 160000, s (ix1 e) = ei (ix2 0 e))
  (hd : ∀ e : Fin 160000, d (ix1 e) = ei (ix2 1 e))

include hd in
/-- Entry `e` of the destinations' column is the wrapped word of row 1 of edge `e`. -/
theorem wrapCol_dst (e : Fin 160000) : wrapCol d (ix2 e 0) = edgeWord ei 1 e := by
  rw [wrapCol_apply, hd, edgeWord]

include hd in
/-- The degrees' column at a node. -/
theorem degCol_apply (i : Fin 10000) : (degCol d (ix2 i 0) : EReal) = degree ei i := by
  have h : ∀ u : FVec Ideal S160000 .f32, ∀ z : FVec Ideal S10000 .f32,
      (Host.scatterAdd scatter_S10000_S160000x1_S160000_n_0_0_1 z (wrapCol d) u (ix1 i) : EReal)
        = z (ix1 i) + ∑ e ∈ edgesTo ei i, u (ix1 e) := fun u z => by
    refine (vecScatterAdd_apply scatter_S10000_S160000x1_S160000_n_0_0_1.wf z (wrapCol d) u i).trans ?_
    simp only [wrapCol_dst ei d hd, edgesTo]
  pointwise [degCol]
  rw [h]
  pointwise
  rw [degree]

include hs hd in
/-- One half's aggregation of rows of 128 features at a node and a feature. -/
theorem agg128_apply (h : BitVec 32) (q : Fin 2) (hq : clampTo 2 (by decide) h = q) (x : FVec Ideal S2x10000x128 .f32)
    (i : Fin 10000) (c : Fin 128) : (agg128 h s d x (ix2 i c) : EReal) = gatherSum ei (fun n c => x (ix3 q n c)) i c := by
  refine (rowScatterAdd_apply scatter_S10000x128_S160000x1_S160000x128_1_0_0_1.wf _ (wrapCol d) _ i c).trans ?_
  have hg : ∀ e : Fin 160000, (Host.gather gather_S2x10000x128_S160000x2_S160000x128_1_01_n_n_01_1_11128 x (pairCol h s) (ix2 e c) : EReal)
      = x (ix3 q (nodeOf ei 0 e) c) := fun e => by
    refine (pairGather_apply (by decide) (by decide) gather_S2x10000x128_S160000x2_S160000x128_1_01_n_n_01_1_11128.wf x (pairCol h s) e c).trans ?_
    rw [pairCol_fst, pairCol_snd, hq, hs]; rfl
  simp only [hg]
  pointwise
  simp only [wrapCol_dst ei d hd]
  rw [gatherSum, edgesTo]

include hs hd in
/-- One half's aggregation of rows of 32 features at a node and a feature. -/
theorem agg32_apply (h : BitVec 32) (q : Fin 2) (hq : clampTo 2 (by decide) h = q) (x : FVec Ideal S2x10000x32 .f32)
    (i : Fin 10000) (c : Fin 32) : (agg32 h s d x (ix2 i c) : EReal) = gatherSum ei (fun n c => x (ix3 q n c)) i c := by
  refine (rowScatterAdd_apply scatter_S10000x32_S160000x1_S160000x32_1_0_0_1.wf _ (wrapCol d) _ i c).trans ?_
  have hg : ∀ e : Fin 160000, (Host.gather gather_S2x10000x32_S160000x2_S160000x32_1_01_n_n_01_1_1132 x (pairCol h s) (ix2 e c) : EReal)
      = x (ix3 q (nodeOf ei 0 e) c) := fun e => by
    refine (pairGather_apply (by decide) (by decide) gather_S2x10000x32_S160000x2_S160000x32_1_01_n_n_01_1_1132.wf x (pairCol h s) e c).trans ?_
    rw [pairCol_fst, pairCol_snd, hq, hs]; rfl
  simp only [hg]
  pointwise
  simp only [wrapCol_dst ei d hd]
  rw [gatherSum, edgesTo]

include hs hd in
/-- The first half's aggregation in the stack of rows of 128 features. -/
theorem stack128_fst (x : FVec Ideal S2x10000x128 .f32) (i : Fin 10000) (c : Fin 128) :
    (stack128 s d x (ix3 0 i c) : EReal) = gatherSum ei (fun n c => x (ix3 0 n c)) i c := by
  pointwise [stack128]
  exact agg128_apply ei s d hs hd 0#32 0 (by decide) x i c

include hs hd in
/-- The second half's aggregation in the stack of rows of 128 features. -/
theorem stack128_snd (x : FVec Ideal S2x10000x128 .f32) (i : Fin 10000) (c : Fin 128) :
    (stack128 s d x (ix3 1 i c) : EReal) = gatherSum ei (fun n c => x (ix3 1 n c)) i c := by
  pointwise [stack128]
  exact agg128_apply ei s d hs hd 1#32 1 (by decide) x i c

include hs hd in
/-- The first half's aggregation in the stack of rows of 32 features. -/
theorem stack32_fst (x : FVec Ideal S2x10000x32 .f32) (i : Fin 10000) (c : Fin 32) :
    (stack32 s d x (ix3 0 i c) : EReal) = gatherSum ei (fun n c => x (ix3 0 n c)) i c := by
  pointwise [stack32]
  exact agg32_apply ei s d hs hd 0#32 0 (by decide) x i c

include hs hd in
/-- The second half's aggregation in the stack of rows of 32 features. -/
theorem stack32_snd (x : FVec Ideal S2x10000x32 .f32) (i : Fin 10000) (c : Fin 32) :
    (stack32 s d x (ix3 1 i c) : EReal) = gatherSum ei (fun n c => x (ix3 1 n c)) i c := by
  pointwise [stack32]
  exact agg32_apply ei s d hs hd 1#32 1 (by decide) x i c

end Edges

section Stretches
variable (V : Valuation τ sig (Elt Ideal))

/-- The first stretch leaves the sources' row of the edge list, flat. -/
theorem host0_src : StableHlo.after hostOps0 V main_v1
    = shapeCast S160000 (extractStridedSlice S1x160000 ![0, 0] (V main_arg1) slices_S2x160000_S1x160000_0_0) shapeCasts_S1x160000_S160000 := by
  after_results_simp <;> rfl

/-- The first stretch leaves the destinations' row of the edge list, flat. -/
theorem host0_dst : StableHlo.after hostOps0 V main_v3
    = shapeCast S160000 (extractStridedSlice S1x160000 ![1, 0] (V main_arg1) slices_S2x160000_S1x160000_1_0) shapeCasts_S1x160000_S160000 := by
  after_results_simp <;> rfl

/-- The first stretch leaves the degrees' column. -/
theorem host0_deg : StableHlo.after hostOps0 V main_v13
    = degCol (shapeCast S160000 (extractStridedSlice S1x160000 ![1, 0] (V main_arg1) slices_S2x160000_S1x160000_1_0) shapeCasts_S1x160000_S160000) := by
  after_results_simp <;> rfl

/-- The second stretch leaves the stack of the first layer's aggregations. -/
theorem host1_stack : StableHlo.after hostOps1 V main_v55 = stack128 (V main_v1) (V main_v3) (V main_v14_1) := by
  after_results_simp <;> rfl

/-- The second stretch leaves the first layer's weights under a leading axis. -/
theorem host1_w1 : StableHlo.after hostOps1 V main_v56 = shapeCast S1x256x256 (V main_arg3) shapeCasts_S256x256_S1x256x256 := by
  after_results_simp <;> rfl

/-- The second stretch leaves the first layer's bias as a row. -/
theorem host1_b1 : StableHlo.after hostOps1 V main_v57 = shapeCast S1x256 (V main_arg4) shapeCasts_S256_S1x256 := by
  after_results_simp <;> rfl

/-- The second stretch leaves the second layer's weights under a leading axis. -/
theorem host1_w2 : StableHlo.after hostOps1 V main_v58 = shapeCast S1x256x64 (V main_arg5) shapeCasts_S256x64_S1x256x64 := by
  after_results_simp <;> rfl

/-- The third stretch leaves the stack of the second layer's aggregations. -/
theorem host2_stack : StableHlo.after hostOps2 V main_v100 = stack32 (V main_v1) (V main_v3) (V main_v59) := by
  after_results_simp <;> rfl

/-- The third stretch leaves the second layer's bias as a row. -/
theorem host2_b2 : StableHlo.after hostOps2 V main_v101 = shapeCast S1x64 (V main_arg6) shapeCasts_S64_S1x64 := by
  after_results_simp <;> rfl

end Stretches

end Ker

end Cert.Proof

end
-- ==== Proof.PayValue.lean ====
/-
  What each region's body leaves in its output blocks, read at an index, as plain sums of its input blocks.
-/
module

public import Idealize.ShloMosaic.Lib.Pointwise
public import Idealize.ShloMosaic.Lib.Pipeline.ValueKit
public import proofs.«01_k».proof.Proof.Gen.KernelIdeal.Frame

@[expose] public section

set_option maxRecDepth 16384

noncomputable section

namespace Cert.Proof

open Idealize.ShloMosaic Idealize.ShloMosaic.TcCoe Idealize.ShloMosaic.Tactic
open Cert.KernelIdeal Cert.KernelIdeal.Gen

namespace Ker

/-- One node's row after the first layer and the second layer's weights: from the node's scale `r`, its two halves of
    aggregated features `a`, and the weights and bias, output feature `j`. -/
def rowOut (r : EReal) (a : Fin 2 → Fin 128 → EReal) (w1 : Vec Ideal S1x256x256 .f32) (b1 : Vec Ideal S1x256 .f32)
    (w2 : Vec Ideal S1x256x64 .f32) (j : Fin 64) : EReal :=
  r * ∑ k : Fin 256, max (r * (∑ c : Fin 128, a 0 c * w1 (ix3 0 ⟨c.val, by omega⟩ k)
      + ∑ c : Fin 128, a 1 c * w1 (ix3 0 ⟨128 + c.val, by omega⟩ k)) + b1 (ix2 0 k)) 0 * w2 (ix3 0 k j)

/-- The first region's scales. -/
theorem out0_2_apply (x0 : Vec Ideal S10000x1 .f32) (x1 : Vec Ideal S10000x256 .f32) (i : Fin 10000) :
    (out0_2 x0 x1 (ix2 i 0) : EReal) = Ideal.rsqrt (max (x0 (ix2 i 0)) 1) := by
  unfold out0_2
  frame_out
  pointwise [k0_pay1]

/-- The first region's scaled features, in two halves of 128. -/
theorem out0_3_apply (x0 : Vec Ideal S10000x1 .f32) (x1 : Vec Ideal S10000x256 .f32) (q : Fin 2) (i : Fin 10000) (c : Fin 128) :
    (out0_3 x0 x1 (ix3 q i c) : EReal) = x1 (ix2 i ⟨128 * q.val + c.val, by omega⟩) * Ideal.rsqrt (max (x0 (ix2 i 0)) 1) := by
  canon_tiles y h
  · idx_vars y
    pointwise [k0_pay4, k0_pay2, k0_pay1]
    obtain rfl : y1 = i := Fin.ext (by omega)
    congr 3
    exact Fin.ext (by show 128 + y2.val = 128 * q.val + c.val; omega)
  · idx_vars y
    pointwise [k0_pay3, k0_pay2, k0_pay1]
    obtain rfl : y1 = i := Fin.ext (by omega)
    congr 3
    exact Fin.ext (by show y2.val = 128 * q.val + c.val; omega)

/-- The second region's rows, in two halves of 32. -/
theorem out1_5_apply (x0 : Vec Ideal S2x2000x128 .f32) (x1 : Vec Ideal S2000x1 .f32) (x2 : Vec Ideal S1x256x256 .f32)
    (x3 : Vec Ideal S1x256 .f32) (x4 : Vec Ideal S1x256x64 .f32) (q : Fin 2) (i : Fin 2000) (c : Fin 32) :
    (out1_5 x0 x1 x2 x3 x4 (ix3 q i c) : EReal)
      = rowOut (x1 (ix2 i 0)) (fun h k => x0 (ix3 h i k)) x2 x3 x4 ⟨32 * q.val + c.val, by omega⟩ := by
  canon_tiles y h
  · idx_vars y
    pointwise [k1_pay1, k1_pay4, k1_pay2]
    obtain rfl : y1 = i := Fin.ext (by omega)
    have e : (⟨32 + y2.val, by omega⟩ : Fin 64) = ⟨32 * q.val + c.val, by omega⟩ :=
      Fin.ext (by show 32 + y2.val = 32 * q.val + c.val; omega)
    rw [rowOut, ← e]
  · idx_vars y
    pointwise [k1_pay3, k1_pay2]
    obtain rfl : y1 = i := Fin.ext (by omega)
    have e : (⟨y2.val, by omega⟩ : Fin 64) = ⟨32 * q.val + c.val, by omega⟩ :=
      Fin.ext (by show y2.val = 32 * q.val + c.val; omega)
    rw [rowOut, ← e]

/-- The third region's result. -/
theorem out2_3_apply (x0 : Vec Ideal S2x10000x32 .f32) (x1 : Vec Ideal S10000x1 .f32) (x2 : Vec Ideal S1x64 .f32) (i : Fin 10000) (j : Fin 64) :
    (out2_3 x0 x1 x2 (ix2 i j) : EReal)
      = x1 (ix2 i 0) * (if h : j.val < 32 then x0 (ix3 0 i ⟨j.val, h⟩) else x0 (ix3 1 i ⟨j.val - 32, by omega⟩)) + x2 (ix2 0 j) := by
  unfold out2_3
  frame_out
  pointwise [k2_pay1]

end Ker

end Cert.Proof

end
-- ==== Proof.RegionValue.lean ====
/-
  The arrays that the three regions leave, at any contents of the buffers when they are entered.
-/
module

public import proofs.«01_k».proof.Proof.PayValue

@[expose] public section

set_option maxRecDepth 16384

noncomputable section

namespace Cert.Proof

open Idealize.ShloMosaic Idealize.ShloMosaic.TcCoe Idealize.ShloMosaic.Tactic
open Idealize.ShloMosaic.Pipeline (Dat)
open Cert.KernelIdeal Cert.KernelIdeal.Gen

namespace Ker

variable (V : (c : Dev nD) → (b : Ref sig .tc) → Buf (Elt Ideal) ((c : Thread nD τ).loc b))

/-- The first region's windows stand at the origin of their arrays. -/
theorem idx0 : ∀ t : Fin cfg0.N, win0_0.index t = ![0, 0] ∧ win0_1.index t = ![0, 0] ∧ win0_2.index t = ![0, 0]
    ∧ win0_3.index t = ![0, 0, 0] :=
  (by decide +kernel : ∀ t : Fin grid0.N, _)

/-- The second region's windows at point `t`: rows from `2000 t` of the stacked arrays and of the scales, the whole of
    the weights and the bias. -/
theorem idx1 : ∀ t : Fin cfg1.N, win1_0.index t = ![0, t.val, 0] ∧ win1_1.index t = ![t.val, 0] ∧ win1_2.index t = ![0, 0, 0]
    ∧ win1_3.index t = ![0, 0] ∧ win1_4.index t = ![0, 0, 0] ∧ win1_5.index t = ![0, t.val, 0] :=
  (by decide +kernel : ∀ t : Fin grid1.N, _)

/-- The third region's windows stand at the origin of their arrays. -/
theorem idx2 : ∀ t : Fin cfg2.N, win2_0.index t = ![0, 0, 0] ∧ win2_1.index t = ![0, 0] ∧ win2_2.index t = ![0, 0]
    ∧ win2_3.index t = ![0, 0] :=
  (by decide +kernel : ∀ t : Fin grid2.N, _)

/-- The scales the first region leaves, from the degrees' column. -/
def scales (D : Vec Ideal S10000x1 .f32) : Vec Ideal S10000x1 .f32 := fun y => Ideal.rsqrt (max (D (ix2 (y 0) 0)) 1)

/-- The scaled features the first region leaves, from the degrees' column and the features. -/
def scaled (D : Vec Ideal S10000x1 .f32) (X : Vec Ideal S10000x256 .f32) : Vec Ideal S2x10000x128 .f32 := fun y =>
  (X (ix2 (y 1) ⟨128 * (y 0).val + (y 2).val, by idx_bounds y; omega⟩) : EReal) * Ideal.rsqrt (max (D (ix2 (y 1) 0)) 1)

/-- The rows the second region leaves. -/
def rows (A : Vec Ideal S2x10000x128 .f32) (r : Vec Ideal S10000x1 .f32) (w1 : Vec Ideal S1x256x256 .f32)
    (b1 : Vec Ideal S1x256 .f32) (w2 : Vec Ideal S1x256x64 .f32) : Vec Ideal S2x10000x32 .f32 := fun y =>
  rowOut (r (ix2 (y 1) 0)) (fun h k => A (ix3 h (y 1) k)) w1 b1 w2 ⟨32 * (y 0).val + (y 2).val, by idx_bounds y; omega⟩

/-- The result the third region leaves. -/
def result (B : Vec Ideal S2x10000x32 .f32) (r : Vec Ideal S10000x1 .f32) (b2 : Vec Ideal S1x64 .f32) : Vec Ideal S10000x64 .f32 := fun y =>
  r (ix2 (y 0) 0) * (if h : (y 1).val < 32 then (B (ix3 0 (y 0) ⟨(y 1).val, h⟩) : EReal)
    else B (ix3 1 (y 0) ⟨(y 1).val - 32, by idx_bounds y; omega⟩)) + b2 (ix2 0 (y 1))

/-- The first region's block of degrees is the degrees' column. -/
theorem iblk0_0 (c : Dev nD) (t : Fin cfg0.N) : iblk0 V c 0 t = V c main_v13 := by
  blk_ext! [iblk0, idx0 t]

/-- The first region's block of features is the features' array. -/
theorem iblk0_1 (c : Dev nD) (t : Fin cfg0.N) : iblk0 V c 1 t = V c main_arg0 := by
  blk_ext! [iblk0, idx0 t]

/-- The third region's block of aggregations is their array. -/
theorem iblk2_0 (c : Dev nD) (t : Fin cfg2.N) : iblk2 V c 0 t = V c main_v100 := by
  blk_ext! [iblk2, idx2 t]

/-- The third region's block of scales is the scales' array. -/
theorem iblk2_1 (c : Dev nD) (t : Fin cfg2.N) : iblk2 V c 1 t = V c main_v14_0 := by
  blk_ext! [iblk2, idx2 t]

/-- The third region's block of the bias is the bias' array. -/
theorem iblk2_2 (c : Dev nD) (t : Fin cfg2.N) : iblk2 V c 2 t = V c main_v101 := by
  blk_ext! [iblk2, idx2 t]

/-- The second region's block of the first weights is their array. -/
theorem iblk1_2 (c : Dev nD) (t : Fin cfg1.N) : iblk1 V c 2 t = V c main_v56 := by
  blk_ext! [iblk1, idx1 t]

/-- The second region's block of the bias is the bias' array. -/
theorem iblk1_3 (c : Dev nD) (t : Fin cfg1.N) : iblk1 V c 3 t = V c main_v57 := by
  blk_ext! [iblk1, idx1 t]

/-- The second region's block of the second weights is their array. -/
theorem iblk1_4 (c : Dev nD) (t : Fin cfg1.N) : iblk1 V c 4 t = V c main_v58 := by
  blk_ext! [iblk1, idx1 t]

/-- The second region's block of aggregations at point `t` is the rows from `2000 t`. -/
theorem iblk1_0 (c : Dev nD) (t : Fin cfg1.N) (ht : t.val < 5) (h : Fin 2) (i : Fin 2000) (k : Fin 128) :
    iblk1 V c 0 t (ix3 h i k) = V c main_v55 (ix3 h ⟨2000 * t.val + i.val, by omega⟩ k) := by
  blk_simp [iblk1]
  refine congrArg (V c main_v55) ?_
  blk_ext [idx1 t]

/-- The second region's block of scales at point `t` is the rows from `2000 t`. -/
theorem iblk1_1 (c : Dev nD) (t : Fin cfg1.N) (ht : t.val < 5) (i : Fin 2000) :
    iblk1 V c 1 t (ix2 i 0) = V c main_v14_0 (ix2 ⟨2000 * t.val + i.val, by omega⟩ 0) := by
  blk_simp [iblk1]
  refine congrArg (V c main_v14_0) ?_
  blk_ext [idx1 t]

/-- The first region leaves the scales. -/
theorem region0_scales (c : Dev nD) : (dat0 V c).arrAt 2 cfg0.N = scales (V c main_v13) := by
  refine (dat0 V c).arrAt_eq_of_covers 2 _ (by decide +kernel) fun t hf y => ?_
  blk_simp
  rw [after0_2, iblk0_0, iblk0_1]
  idx_vars y
  have e : ((View.whole main_v14_0).slice (win0_2.rect t)).emb (ix2 y0 y1) = ix2 y0 y1 := by blk_ext [idx0 t]
  rw [e]
  obtain rfl : y1 = 0 := Subsingleton.elim _ _
  exact out0_2_apply _ _ y0

/-- The first region leaves the scaled features. -/
theorem region0_scaled (c : Dev nD) : (dat0 V c).arrAt 3 cfg0.N = scaled (V c main_v13) (V c main_arg0) := by
  refine (dat0 V c).arrAt_eq_of_covers 3 _ (by decide +kernel) fun t hf y => ?_
  blk_simp
  rw [after0_3, iblk0_0, iblk0_1]
  idx_vars y
  rw [out0_3_apply]
  have e : ((View.whole main_v14_1).slice (win0_3.rect t)).emb (ix3 y0 y1 y2) = ix3 y0 y1 y2 := by blk_ext [idx0 t]
  rw [e]
  rfl

/-- The second region leaves the rows. -/
theorem region1_rows (c : Dev nD) :
    (dat1 V c).arrAt 5 cfg1.N = rows (V c main_v55) (V c main_v14_0) (V c main_v56) (V c main_v57) (V c main_v58) := by
  refine (dat1 V c).arrAt_eq_of_covers 5 _ (by decide +kernel) fun t hf y => ?_
  blk_simp
  rw [after1_5, iblk1_2, iblk1_3, iblk1_4]
  idx_vars y
  rw [out1_5_apply]
  have ht : t.val < 5 := lt_of_lt_of_eq t.isLt (by decide)
  have e : ((View.whole main_v59).slice (win1_5.rect t)).emb (ix3 y0 y1 y2) = ix3 y0 ⟨2000 * t.val + y1.val, by omega⟩ y2 := by
    blk_ext [idx1 t]
  rw [e, iblk1_1 V c t ht]
  simp only [iblk1_0 V c t ht]
  rfl

/-- The third region leaves the result. -/
theorem region2_result (c : Dev nD) :
    (dat2 V c).arrAt 3 cfg2.N = result (V c main_v100) (V c main_v14_0) (V c main_v101) := by
  refine (dat2 V c).arrAt_eq_of_covers 3 _ (by decide +kernel) fun t hf y => ?_
  blk_simp
  rw [after2_3, iblk2_0, iblk2_1, iblk2_2]
  idx_vars y
  rw [out2_3_apply]
  have e : ((View.whole main_v102).slice (win2_3.rect t)).emb (ix2 y0 y1) = ix2 y0 y1 := by blk_ext [idx2 t]
  rw [e]
  rfl

end Ker

end Cert.Proof

end
-- ==== Proof.KernelValue.lean ====
/-
  The idealized kernel's result array at an index: the fold over its stretches and regions, read from the arguments to the
  result, is the specification in the kernel's order of computation.
-/
module

public import proofs.«01_k».proof.Proof.HostValue
public import proofs.«01_k».proof.Proof.RegionValue

@[expose] public section

set_option maxRecDepth 16384

noncomputable section

namespace Cert.Proof

open Idealize.ShloMosaic Idealize.ShloMosaic.TcCoe Idealize.ShloMosaic.Tactic
open Cert.KernelIdeal Cert.KernelIdeal.Gen

namespace Ker

variable (m : (ℓ : Loc nD τ sig) → Buf (Elt Ideal) ℓ) (ρ : Dev nD → PrngReg) (c : Dev nD)

/-- The features' array as launched. -/
abbrev X : Mat 10000 256 := m ((c.tc : Thread nD τ).loc main_arg0)
/-- The edge list as launched. -/
abbrev EI : Edges := m ((c.tc : Thread nD τ).loc main_arg1)
/-- The first layer's weights as launched. -/
abbrev A1 : Mat 256 256 := m ((c.tc : Thread nD τ).loc main_arg3)
/-- The first layer's bias as launched. -/
abbrev B1 : Vct 256 := m ((c.tc : Thread nD τ).loc main_arg4)
/-- The second layer's weights as launched. -/
abbrev A2 : Mat 256 64 := m ((c.tc : Thread nD τ).loc main_arg5)
/-- The second layer's bias as launched. -/
abbrev B2 : Vct 64 := m ((c.tc : Thread nD τ).loc main_arg6)

/-- A stack of matrices of extended reals of literal extents. -/
abbrev Cube (a b d : Nat) : Type := (⟨3, ![a, b, d]⟩ : Shape).Idx → EReal

/-- The degrees' column when the first region is entered. -/
def D1 : Mat 10000 1 := W1 m ρ c main_v13
/-- The scales that the first region leaves. -/
def R2 : Mat 10000 1 := W2 m ρ c main_v14_0
/-- The scaled features that the first region leaves. -/
def XS2 : Cube 2 10000 128 := W2 m ρ c main_v14_1
/-- The first layer's aggregations when the second region is entered. -/
def ST3 : Cube 2 10000 128 := W3 m ρ c main_v55
/-- The scales when the second region is entered. -/
def R3 : Mat 10000 1 := W3 m ρ c main_v14_0
/-- The first layer's weights when the second region is entered. -/
def WA3 : Cube 1 256 256 := W3 m ρ c main_v56
/-- The first layer's bias when the second region is entered. -/
def BA3 : Mat 1 256 := W3 m ρ c main_v57
/-- The second layer's weights when the second region is entered. -/
def WB3 : Cube 1 256 64 := W3 m ρ c main_v58
/-- The rows that the second region leaves. -/
def Z4 : Cube 2 10000 32 := W4 m ρ c main_v59
/-- The second layer's aggregations when the third region is entered. -/
def ST5 : Cube 2 10000 32 := W5 m ρ c main_v100
/-- The scales when the third region is entered. -/
def R5 : Mat 10000 1 := W5 m ρ c main_v14_0
/-- The second layer's bias when the third region is entered. -/
def BB5 : Mat 1 64 := W5 m ρ c main_v101
/-- The result's array. -/
def OUT6 : Mat 10000 64 := W6 m ρ c main_v102

/-! ## Before and after the first region -/

/-- The sources, flat, when the first region is entered. -/
theorem src1 (e : Fin 160000) : W1 m ρ c main_v1 (ix1 e) = EI m c (ix2 0 e) := by
  rw [show W1 m ρ c main_v1 = _ from host0_src (W0 m ρ c)]
  pointwise

/-- The destinations, flat, when the first region is entered. -/
theorem dst1 (e : Fin 160000) : W1 m ρ c main_v3 (ix1 e) = EI m c (ix2 1 e) := by
  rw [show W1 m ρ c main_v3 = _ from host0_dst (W0 m ρ c)]
  pointwise

/-- The degrees when the first region is entered. -/
theorem deg1 (i : Fin 10000) : (D1 m ρ c (ix2 i 0) : EReal) = degree (EI m c) i := by
  rw [show D1 m ρ c = _ from host0_deg (W0 m ρ c)]
  refine degCol_apply (EI m c) _ (fun e => ?_) i
  pointwise

/-- The sources are untouched by the first region. -/
theorem src2 (e : Fin 160000) : W2 m ρ c main_v1 (ix1 e) = EI m c (ix2 0 e) := by
  rw [show W2 m ρ c main_v1 = W1 m ρ c main_v1 from W2_of m ρ c main_v1 (by decide +kernel)]
  exact src1 m ρ c e

/-- The destinations are untouched by the first region. -/
theorem dst2 (e : Fin 160000) : W2 m ρ c main_v3 (ix1 e) = EI m c (ix2 1 e) := by
  rw [show W2 m ρ c main_v3 = W1 m ρ c main_v3 from W2_of m ρ c main_v3 (by decide +kernel)]
  exact dst1 m ρ c e

/-- The scales that the first region leaves. -/
theorem scale2 (i : Fin 10000) : (R2 m ρ c (ix2 i 0) : EReal) = scale (EI m c) i := by
  rw [show R2 m ρ c = _ from (W2_arr m ρ c 2).trans (region0_scales (V1 m ρ) c)]
  show Ideal.rsqrt (max (D1 m ρ c (ix2 i 0)) 1) = _
  rw [deg1, scale, max_comm]

/-- The scaled features that the first region leaves. -/
theorem scaled2 (q : Fin 2) (i : Fin 10000) (k : Fin 128) :
    (XS2 m ρ c (ix3 q i k) : EReal) = X m c (ix2 i ⟨128 * q.val + k.val, by omega⟩) * scale (EI m c) i := by
  rw [show XS2 m ρ c = _ from (W2_arr m ρ c 3).trans (region0_scaled (V1 m ρ) c)]
  show X m c (ix2 i ⟨128 * q.val + k.val, _⟩) * Ideal.rsqrt (max (D1 m ρ c (ix2 i 0)) 1) = _
  rw [deg1, scale, max_comm]

/-! ## Before and after the second region -/

/-- The first layer's aggregations when the second region is entered, first half. -/
theorem stack3_fst (i : Fin 10000) (k : Fin 128) : (ST3 m ρ c (ix3 0 i k) : EReal)
    = gatherSum (EI m c) (fun n a => X m c (ix2 n a) * scale (EI m c) n) i (⟨k.val, by omega⟩ : Fin 256) := by
  rw [show ST3 m ρ c = _ from host1_stack (W2 m ρ c), stack128_fst (EI m c) _ _ (src2 m ρ c) (dst2 m ρ c)]
  unfold gatherSum
  refine Finset.sum_congr rfl fun e _ => ?_
  refine (scaled2 m ρ c 0 (nodeOf (EI m c) 0 e) k).trans ?_
  have h : (⟨128 * (0 : Fin 2).val + k.val, by omega⟩ : Fin 256) = ⟨k.val, by omega⟩ := Fin.ext (Nat.zero_add _)
  rw [h]

/-- The first layer's aggregations when the second region is entered, second half. -/
theorem stack3_snd (i : Fin 10000) (k : Fin 128) : (ST3 m ρ c (ix3 1 i k) : EReal)
    = gatherSum (EI m c) (fun n a => X m c (ix2 n a) * scale (EI m c) n) i (⟨128 + k.val, by omega⟩ : Fin 256) := by
  rw [show ST3 m ρ c = _ from host1_stack (W2 m ρ c), stack128_snd (EI m c) _ _ (src2 m ρ c) (dst2 m ρ c)]
  unfold gatherSum
  refine Finset.sum_congr rfl fun e _ => ?_
  exact scaled2 m ρ c 1 (nodeOf (EI m c) 0 e) k

/-- The scales when the second region is entered. -/
theorem scale3 (i : Fin 10000) : (R3 m ρ c (ix2 i 0) : EReal) = scale (EI m c) i := by
  rw [show R3 m ρ c = W2 m ρ c main_v14_0 from W3_of m ρ c main_v14_0 (by decide +kernel)]
  exact scale2 m ρ c i

/-- The first layer's weights when the second region is entered. -/
theorem w1_3 (a k : Fin 256) : (WA3 m ρ c (ix3 0 a k) : EReal) = A1 m c (ix2 a k) := by
  rw [show WA3 m ρ c = _ from host1_w1 (W2 m ρ c), show W2 m ρ c main_arg3 = _ from W2_args m ρ c main_arg3 (by decide)]
  pointwise

/-- The first layer's bias when the second region is entered. -/
theorem b1_3 (k : Fin 256) : (BA3 m ρ c (ix2 0 k) : EReal) = B1 m c (ix1 k) := by
  rw [show BA3 m ρ c = _ from host1_b1 (W2 m ρ c), show W2 m ρ c main_arg4 = _ from W2_args m ρ c main_arg4 (by decide)]
  pointwise

/-- The second layer's weights when the second region is entered. -/
theorem w2_3 (a : Fin 256) (k : Fin 64) : (WB3 m ρ c (ix3 0 a k) : EReal) = A2 m c (ix2 a k) := by
  rw [show WB3 m ρ c = _ from host1_w2 (W2 m ρ c), show W2 m ρ c main_arg5 = _ from W2_args m ρ c main_arg5 (by decide)]
  pointwise

/-- The rows that the second region leaves. -/
theorem rows4 (q : Fin 2) (i : Fin 10000) (k : Fin 32) : (Z4 m ρ c (ix3 q i k) : EReal)
    = contracted (X m c) (EI m c) (A1 m c) (B1 m c) (A2 m c) i ⟨32 * q.val + k.val, by omega⟩ := by
  rw [show Z4 m ρ c = _ from (W4_arr m ρ c 5).trans (region1_rows (V3 m ρ) c)]
  show rowOut (R3 m ρ c (ix2 i 0)) (fun h k => ST3 m ρ c (ix3 h i k)) (WA3 m ρ c) (BA3 m ρ c)
    (WB3 m ρ c) ⟨32 * q.val + k.val, _⟩ = _
  unfold rowOut contracted hiddenKer
  simp only [scale3, stack3_fst, stack3_snd, w1_3, b1_3, w2_3]

/-- The sources are untouched by the second region and the stretch before it. -/
theorem src4 (e : Fin 160000) : W4 m ρ c main_v1 (ix1 e) = EI m c (ix2 0 e) := by
  rw [show W4 m ρ c main_v1 = W3 m ρ c main_v1 from W4_of m ρ c main_v1 (by decide +kernel),
    show W3 m ρ c main_v1 = W2 m ρ c main_v1 from W3_of m ρ c main_v1 (by decide +kernel)]
  exact src2 m ρ c e

/-- The destinations are untouched by the second region and the stretch before it. -/
theorem dst4 (e : Fin 160000) : W4 m ρ c main_v3 (ix1 e) = EI m c (ix2 1 e) := by
  rw [show W4 m ρ c main_v3 = W3 m ρ c main_v3 from W4_of m ρ c main_v3 (by decide +kernel),
    show W3 m ρ c main_v3 = W2 m ρ c main_v3 from W3_of m ρ c main_v3 (by decide +kernel)]
  exact dst2 m ρ c e

/-! ## Before and after the third region -/

/-- The second layer's aggregations when the third region is entered, first half. -/
theorem stack5_fst (i : Fin 10000) (k : Fin 32) : (ST5 m ρ c (ix3 0 i k) : EReal)
    = gatherSum (EI m c) (contracted (X m c) (EI m c) (A1 m c) (B1 m c) (A2 m c)) i (⟨k.val, by omega⟩ : Fin 64) := by
  rw [show ST5 m ρ c = _ from host2_stack (W4 m ρ c), stack32_fst (EI m c) _ _ (src4 m ρ c) (dst4 m ρ c)]
  unfold gatherSum
  refine Finset.sum_congr rfl fun e _ => ?_
  refine (rows4 m ρ c 0 (nodeOf (EI m c) 0 e) k).trans ?_
  have h : (⟨32 * (0 : Fin 2).val + k.val, by omega⟩ : Fin 64) = ⟨k.val, by omega⟩ := Fin.ext (Nat.zero_add _)
  rw [h]

/-- The second layer's aggregations when the third region is entered, second half. -/
theorem stack5_snd (i : Fin 10000) (k : Fin 32) : (ST5 m ρ c (ix3 1 i k) : EReal)
    = gatherSum (EI m c) (contracted (X m c) (EI m c) (A1 m c) (B1 m c) (A2 m c)) i (⟨32 + k.val, by omega⟩ : Fin 64) := by
  rw [show ST5 m ρ c = _ from host2_stack (W4 m ρ c), stack32_snd (EI m c) _ _ (src4 m ρ c) (dst4 m ρ c)]
  unfold gatherSum
  refine Finset.sum_congr rfl fun e _ => ?_
  exact rows4 m ρ c 1 (nodeOf (EI m c) 0 e) k

/-- The scales when the third region is entered. -/
theorem scale5 (i : Fin 10000) : (R5 m ρ c (ix2 i 0) : EReal) = scale (EI m c) i := by
  rw [show R5 m ρ c = W4 m ρ c main_v14_0 from W5_of m ρ c main_v14_0 (by decide +kernel),
    show W4 m ρ c main_v14_0 = W3 m ρ c main_v14_0 from W4_of m ρ c main_v14_0 (by decide +kernel)]
  exact scale3 m ρ c i

/-- The second layer's bias when the third region is entered. -/
theorem b2_5 (k : Fin 64) : (BB5 m ρ c (ix2 0 k) : EReal) = B2 m c (ix1 k) := by
  rw [show BB5 m ρ c = _ from host2_b2 (W4 m ρ c), show W4 m ρ c main_arg6 = _ from W4_args m ρ c main_arg6 (by decide)]
  pointwise

/-- THE KERNEL'S RESULT at a node and an output feature: the specification in the kernel's order of computation, at the
    arrays as launched. -/
theorem result6 (i : Fin 10000) (j : Fin 64) : (OUT6 m ρ c (ix2 i j) : EReal)
    = outKer (X m c) (EI m c) (A1 m c) (B1 m c) (A2 m c) (B2 m c) i j := by
  rw [show OUT6 m ρ c = _ from (W6_arr m ρ c 3).trans (region2_result (V5 m ρ) c)]
  show (R5 m ρ c (ix2 i 0) : EReal) * (if h : j.val < 32 then (ST5 m ρ c (ix3 0 i ⟨j.val, h⟩) : EReal)
    else ST5 m ρ c (ix3 1 i ⟨j.val - 32, _⟩)) + BB5 m ρ c (ix2 0 j) = _
  rw [scale5, b2_5, outKer]
  split
  · rw [stack5_fst]
  · rename_i h
    rw [stack5_snd]
    congr 3
    exact Fin.ext (by show 32 + (j.val - 32) = j.val; omega)

end Ker

end Cert.Proof

end
-- ==== Proof.lean ====
/- A two-layer graph convolution on 10000 nodes and 160000 edges. The kernel gathers and scatters node rows on the host
   around three TensorCore calls; it scales rows before and after each edge sum and applies the second layer's weights
   before the second edge sum. The reference scales every message by both end points' degrees and applies the weights last.
   `claim` puts together the frames of the three programs, and the equality of kernel and reference over the extended reals,
   which holds for all arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefValue
public import proofs.«01_k».proof.Proof.KernelRun
public import proofs.«01_k».proof.Proof.KernelValue
public import Idealize.ShloMosaic.Adequacy
public import Idealize.ShloMosaic.Init

@[expose] public section

noncomputable section

namespace Cert.Proof

open Idealize.ShloMosaic Idealize.SL.Sem Cert.Kernel

/-- The kernel as printed ends without fault, leaves its arguments as they were and every semaphore counter at zero. -/
theorem frame_kernel : Cert.quiescent_Kernel (hKernel := Cert.Kernel.Gen.facts) :=
  fun m ρ _ => Cert.Kernel.Gen.frame m ρ

/-- The idealized kernel ends without fault, leaves its arguments as they were and every semaphore counter at zero. -/
theorem frame_kernelIdeal : Cert.quiescent_KernelIdeal (hKernelIdeal := Cert.KernelIdeal.Gen.facts) :=
  fun m ρ _ => Cert.KernelIdeal.Gen.frame m ρ

/-- The reference ends without fault, leaves its arguments as they were and every semaphore counter at zero. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run m ρ)

/-- Launched with the same arguments, the reference's result array is the kernel's, entry by entry. -/
theorem results_agree (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread _ _).loc Cert.ReferenceIdeal.main_arg0) = Ker.X m c)
    (h1 : m' ((c.tc : Thread _ _).loc Cert.ReferenceIdeal.main_arg1) = Ker.EI m c)
    (h3 : m' ((c.tc : Thread _ _).loc Cert.ReferenceIdeal.main_arg3) = Ker.A1 m c)
    (h4 : m' ((c.tc : Thread _ _).loc Cert.ReferenceIdeal.main_arg4) = Ker.B1 m c)
    (h5 : m' ((c.tc : Thread _ _).loc Cert.ReferenceIdeal.main_arg5) = Ker.A2 m c)
    (h6 : m' ((c.tc : Thread _ _).loc Cert.ReferenceIdeal.main_arg6) = Ker.B2 m c) :
    Cert.ReferenceIdeal.Value.res_main_v102 m' c = Ker.OUT6 m ρ c := by
  have key : ∀ (i : Fin 10000) (j : Fin 64),
      (Cert.ReferenceIdeal.Value.res_main_v102 m' c (ix2 i j) : EReal) = Ker.OUT6 m ρ c (ix2 i j) := fun i j => by
    rw [Ref.res_apply m' c i j, Ker.result6 m ρ c i j, h0, h1, h3, h4, h5, h6]
    exact out_eq _ _ _ _ _ _ i j
  funext y
  have e : y = ix2 (y 0) (y 1) := eq_ix2 y
  exact (congrArg (fun z => (Cert.ReferenceIdeal.Value.res_main_v102 m' c z : EReal)) e).trans
    ((key (y 0) (y 1)).trans (congrArg (fun z => (Ker.OUT6 m ρ c z : EReal)) e).symm)

/-- Kernel and reference compute the same array over the extended reals, whatever the arguments. -/
theorem algebraic : Cert.algebraic_KernelIdeal_ReferenceIdeal (hKernelIdeal := Cert.KernelIdeal.Gen.facts)
    (hReferenceIdeal := Cert.ReferenceIdeal.Gen.facts) :=
  fun m ρ m' ρ' _ h => ⟨fun c => Ker.OUT6 m ρ c, kernel_result m ρ,
    (θ_run Cert.ReferenceIdeal.defs _ _).mono
      (fun _ hr c => ⟨(hr c).1.trans (results_agree m ρ m' c (h c).1 (h c).2.1 (h c).2.2.2.1 (h c).2.2.2.2.1
        (h c).2.2.2.2.2.1 (h c).2.2.2.2.2.2), (hr c).2⟩)
      (Cert.ReferenceIdeal.Value.run m' ρ')⟩

/-- All five claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
